-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_names_pages_KernelIdeal [hPre_names_pages_KernelIdeal : Cert.Pre_names_pages_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_names_pages_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_names_pages_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_names_pages_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_names_pages_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_pages_ReferenceIdeal [hPre_names_pages_ReferenceIdeal : Cert.Pre_names_pages_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_pages_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_names_pages_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_names_pages_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_names_pages_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_names_pages_KernelIdeal [hKernelIdeal : Cert.KernelIdeal.Facts] [hPre_names_pages_KernelIdeal : Cert.Pre_names_pages_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_names_pages_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_names_pages_ReferenceIdeal [hReferenceIdeal : Cert.ReferenceIdeal.Facts] [hPre_names_pages_ReferenceIdeal : Cert.Pre_names_pages_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_pages_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_names_pages_KernelIdeal [hKernelIdeal : Cert.KernelIdeal.Facts] [hReferenceIdeal : Cert.ReferenceIdeal.Facts] [hPre_names_pages_KernelIdeal : Cert.Pre_names_pages_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_names_pages_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![64, 16, 8, 64]⟩ ⟨4, ![512, 16, 8, 64]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![64, 16, 8, 64]⟩ ⟨4, ![512, 16, 8, 64]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_names_pages_KernelIdeal : Cert.Pre_names_pages_KernelIdeal.Facts) (hPre_names_pages_ReferenceIdeal : Cert.Pre_names_pages_ReferenceIdeal.Facts),
    quiescent_Kernel (hKernel := hKernel)
    ∧ quiescent_KernelIdeal (hKernelIdeal := hKernelIdeal)
    ∧ quiescent_KernelIdeal_pre_names_pages_KernelIdeal (hKernelIdeal := hKernelIdeal) (hPre_names_pages_KernelIdeal := hPre_names_pages_KernelIdeal)
    ∧ quiescent_ReferenceIdeal (hReferenceIdeal := hReferenceIdeal)
    ∧ quiescent_ReferenceIdeal_pre_names_pages_ReferenceIdeal (hReferenceIdeal := hReferenceIdeal) (hPre_names_pages_ReferenceIdeal := hPre_names_pages_ReferenceIdeal)
    ∧ preserves_Kernel_KernelIdeal
    ∧ algebraic_KernelIdeal_ReferenceIdeal_pre_names_pages_KernelIdeal (hKernelIdeal := hKernelIdeal) (hReferenceIdeal := hReferenceIdeal) (hPre_names_pages_KernelIdeal := hPre_names_pages_KernelIdeal)
-- ==== Pre_names_pages_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8 : S_.BroadcastsInDim S8 (![] : Fin 0 → Fin S8.rank)
  bcast_S_S8x64 : S_.BroadcastsInDim S8x64 (![] : Fin 0 → Fin S8x64.rank)
  bcast_S_S8x1x8x64 : S_.BroadcastsInDim S8x1x8x64 (![] : Fin 0 → Fin S8x1x8x64.rank)
  bcast_S_S64x16x8x64 : S_.BroadcastsInDim S64x16x8x64 (![] : Fin 0 → Fin S64x16x8x64.rank)

variable [Facts]

def fn_part1 {F : FTy → Type} [FloatOps F] (main_v7 : IVec S8 1) (main_v14 : IVec S8x64 1) (main_v17 : IVec S8x1x8x64 1) (main_v18 : FVec F S64x16x8x64 .bf16) (main_cst_2 : FVec F S_ .bf16) : IVec S8 1 × IVec S8x64 1 × IVec S8x1x8x64 1 × IVec S64x16x8x64 1 :=
  let main_v19 : FVec F S64x16x8x64 .bf16 := broadcastInDim S64x16x8x64 ![] bcast_S_S64x16x8x64 main_cst_2
  let main_v20 : IVec S64x16x8x64 1 := cmpf .olt main_v18 main_v19
  (main_v7, main_v14, main_v17, main_v20)

def fn {F : FTy → Type} [FloatOps F] (main_arg0 : FVec F S8x1x8x64 .bf16) (main_arg1 : FVec F S64x16x8x64 .bf16) (main_arg2 : FVec F S64x16x8x64 .bf16) (main_arg3 : IVec S8x64 32) (main_arg4 : IVec S8 32) : IVec S8 1 × IVec S8x64 1 × IVec S8x1x8x64 1 × IVec S64x16x8x64 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_c : IVec S_ 32 := constantI S_ 32 1#32
  let main_v6 : IVec S8 32 := broadcastInDim S8 ![] bcast_S_S8 main_c
  let main_v7 : IVec S8 1 := cmpi .sge main_arg4 main_v6
  let main_v8 : IVec S8x64 1 := noti main_v5
  let main_c_0 : IVec S_ 32 := constantI S_ 32 0#32
  let main_v9 : IVec S8x64 32 := broadcastInDim S8x64 ![] bcast_S_S8x64 main_c_0
  let main_v10 : IVec S8x64 1 := cmpi .sge main_arg3 main_v9
  let main_c_1 : IVec S_ 32 := constantI S_ 32 512#32
  let main_v11 : IVec S8x64 32 := broadcastInDim S8x64 ![] bcast_S_S8x64 main_c_1
  let main_v12 : IVec S8x64 1 := cmpi .slt main_arg3 main_v11
  let main_v13 : IVec S8x64 1 := andi main_v10 main_v12
  let main_v14 : IVec S8x64 1 := ori main_v8 main_v13
  let main_v15 : FVec F S8x1x8x64 .bf16 := Host.absf main_arg0
  let main_cst : FVec F S_ .bf16 := constant S_ .bf16 0x7F80#16
  let main_v16 : FVec F S8x1x8x64 .bf16 := broadcastInDim S8x1x8x64 ![] bcast_S_S8x1x8x64 main_cst
  let main_v17 : IVec S8x1x8x64 1 := cmpf .olt main_v15 main_v16
  let main_v18 : FVec F S64x16x8x64 .bf16 := Host.absf main_arg1
  let main_cst_2 : FVec F S_ .bf16 := constant S_ .bf16 0x7F80#16
  fn_part1 (F := F) main_v7 main_v14 main_v17 main_v18 main_cst_2
-- ==== Pre_names_pages_ReferenceIdeal.lean ====
abbrev S8x1x8x64 : Shape := ⟨4, ![8, 1, 8, 64]⟩
abbrev S512x16x8x64 : Shape := ⟨4, ![512, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8 : S_.BroadcastsInDim S8 (![] : Fin 0 → Fin S8.rank)
  bcast_S_S8x64 : S_.BroadcastsInDim S8x64 (![] : Fin 0 → Fin S8x64.rank)
  bcast_S_S8x1x8x64 : S_.BroadcastsInDim S8x1x8x64 (![] : Fin 0 → Fin S8x1x8x64.rank)
  bcast_S_S512x16x8x64 : S_.BroadcastsInDim S512x16x8x64 (![] : Fin 0 → Fin S512x16x8x64.rank)

variable [Facts]

def fn_part1 {F : FTy → Type} [FloatOps F] (main_v7 : IVec S8 1) (main_v14 : IVec S8x64 1) (main_v17 : IVec S8x1x8x64 1) (main_v18 : FVec F S512x16x8x64 .bf16) (main_cst_2 : FVec F S_ .bf16) : IVec S8 1 × IVec S8x64 1 × IVec S8x1x8x64 1 × IVec S512x16x8x64 1 :=
  let main_v19 : FVec F S512x16x8x64 .bf16 := broadcastInDim S512x16x8x64 ![] bcast_S_S512x16x8x64 main_cst_2
  let main_v20 : IVec S512x16x8x64 1 := cmpf .olt main_v18 main_v19
  (main_v7, main_v14, main_v17, main_v20)

def fn {F : FTy → Type} [FloatOps F] (main_arg0 : FVec F S8x1x8x64 .bf16) (main_arg1 : FVec F S512x16x8x64 .bf16) (main_arg2 : FVec F S512x16x8x64 .bf16) (main_arg3 : IVec S8x64 32) (main_arg4 : IVec S8 32) : IVec S8 1 × IVec S8x64 1 × IVec S8x1x8x64 1 × IVec S512x16x8x64 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_c : IVec S_ 32 := constantI S_ 32 1#32
  let main_v6 : IVec S8 32 := broadcastInDim S8 ![] bcast_S_S8 main_c
  let main_v7 : IVec S8 1 := cmpi .sge main_arg4 main_v6
  let main_v8 : IVec S8x64 1 := noti main_v5
  let main_c_0 : IVec S_ 32 := constantI S_ 32 0#32
  let main_v9 : IVec S8x64 32 := broadcastInDim S8x64 ![] bcast_S_S8x64 main_c_0
  let main_v10 : IVec S8x64 1 := cmpi .sge main_arg3 main_v9
  let main_c_1 : IVec S_ 32 := constantI S_ 32 512#32
  let main_v11 : IVec S8x64 32 := broadcastInDim S8x64 ![] bcast_S_S8x64 main_c_1
  let main_v12 : IVec S8x64 1 := cmpi .slt main_arg3 main_v11
  let main_v13 : IVec S8x64 1 := andi main_v10 main_v12
  let main_v14 : IVec S8x64 1 := ori main_v8 main_v13
  let main_v15 : FVec F S8x1x8x64 .bf16 := Host.absf main_arg0
  let main_cst : FVec F S_ .bf16 := constant S_ .bf16 0x7F80#16
  let main_v16 : FVec F S8x1x8x64 .bf16 := broadcastInDim S8x1x8x64 ![] bcast_S_S8x1x8x64 main_cst
  let main_v17 : IVec S8x1x8x64 1 := cmpf .olt main_v15 main_v16
  let main_v18 : FVec F S512x16x8x64 .bf16 := Host.absf main_arg1
  let main_cst_2 : FVec F S_ .bf16 := constant S_ .bf16 0x7F80#16
  fn_part1 (F := F) main_v7 main_v14 main_v17 main_v18 main_cst_2
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S8x8x128 : Shape := ⟨3, ![8, 8, 128]⟩
abbrev S8x8x8x128 : Shape := ⟨4, ![8, 8, 8, 128]⟩
abbrev S_ : Shape := ⟨0, ![]⟩
abbrev S8x8x64 : Shape := ⟨3, ![8, 8, 64]⟩
abbrev S1024x8x64 : Shape := ⟨3, ![1024, 8, 64]⟩
abbrev S8x1 : Shape := ⟨2, ![8, 1]⟩
abbrev S64x1024 : Shape := ⟨2, ![64, 1024]⟩
abbrev S8x1024 : Shape := ⟨2, ![8, 1024]⟩
abbrev S8x1x64 : Shape := ⟨3, ![8, 1, 64]⟩
abbrev S1024x1x64 : Shape := ⟨3, ![1024, 1, 64]⟩
abbrev S1024x64 : Shape := ⟨2, ![1024, 64]⟩
abbrev S8x1x1 : Shape := ⟨3, ![8, 1, 1]⟩
abbrev S1 : Shape := ⟨1, ![1]⟩
abbrev S1x8x8x128 : Shape := ⟨4, ![1, 8, 8, 128]⟩
abbrev S8x8x1 : Shape := ⟨3, ![8, 8, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x1x8x64, .bf16⟩
  | .hbm, ⟨1, _⟩ => ⟨S64x16x8x64, .bf16⟩
  | .hbm, ⟨2, _⟩ => ⟨S64x16x8x64, .bf16⟩
  | .hbm, ⟨3, _⟩ => ⟨S8x64, .i32⟩
  | .hbm, ⟨4, _⟩ => ⟨S8, .i32⟩
  | .hbm, ⟨5, _⟩ => ⟨S8x1x8x64, .f32⟩
  | .local _ .vmem, ⟨0, _⟩ => ⟨S8x1x8x64, .bf16⟩
  | .local _ .vmem, ⟨1, _⟩ => ⟨S64x16x8x64, .bf16⟩
  | .local _ .vmem, ⟨2, _⟩ => ⟨S64x16x8x64, .bf16⟩
  | .local _ .vmem, ⟨3, _⟩ => ⟨S8x64, .i32⟩
  | .local _ .vmem, ⟨4, _⟩ => ⟨S8, .i32⟩
  | .local _ .vmem, ⟨5, _⟩ => ⟨S8x1x8x64, .f32⟩
  | .local _ .vmem, ⟨6, _⟩ => ⟨S8x8x128, .f32⟩
  | .local _ .vmem, ⟨7, _⟩ => ⟨S8x8x8x128, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_364 : BitVec 32 := 0#32
  let c0_i32_362 : BitVec 32 := 0#32
  let c1_i32_363 : BitVec 32 := 1#32
  let v940 : BitVec 32 := Scalar.muli c0_i32_362 c1_i32_363
  let v941 : BitVec 32 := Scalar.addi c0_i32_364 v940
  v941.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_364 : BitVec 32 := 0#32
  let c1_i32_362 : BitVec 32 := 1#32
  let c1_i32_363 : BitVec 32 := 1#32
  let v940 : BitVec 32 := Scalar.muli c1_i32_362 c1_i32_363
  let v941 : BitVec 32 := Scalar.addi c0_i32_364 v940
  v941.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_364 : BitVec 32 := 0#32
  let c2_i32_362 : BitVec 32 := 2#32
  let c1_i32_363 : BitVec 32 := 1#32
  let v940 : BitVec 32 := Scalar.muli c2_i32_362 c1_i32_363
  let v941 : BitVec 32 := Scalar.addi c0_i32_364 v940
  v941.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_364 : BitVec 32 := 0#32
  let c3_i32_362 : BitVec 32 := 3#32
  let c1_i32_363 : BitVec 32 := 1#32
  let v940 : BitVec 32 := Scalar.muli c3_i32_362 c1_i32_363
  let v941 : BitVec 32 := Scalar.addi c0_i32_364 v940
  v941.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_364 : BitVec 32 := 0#32
  let c4_i32_362 : BitVec 32 := 4#32
  let c1_i32_363 : BitVec 32 := 1#32
  let v940 : BitVec 32 := Scalar.muli c4_i32_362 c1_i32_363
  let v941 : BitVec 32 := Scalar.addi c0_i32_364 v940
  v941.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_364 : BitVec 32 := 0#32
  let c5_i32_362 : BitVec 32 := 5#32
  let c1_i32_363 : BitVec 32 := 1#32
  let v940 : BitVec 32 := Scalar.muli c5_i32_362 c1_i32_363
  let v941 : BitVec 32 := Scalar.addi c0_i32_364 v940
  v941.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_364 : BitVec 32 := 0#32
  let c6_i32_362 : BitVec 32 := 6#32
  let c1_i32_363 : BitVec 32 := 1#32
  let v940 : BitVec 32 := Scalar.muli c6_i32_362 c1_i32_363
  let v941 : BitVec 32 := Scalar.addi c0_i32_364 v940
  v941.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_364 : BitVec 32 := 0#32
  let c7_i32_362 : BitVec 32 := 7#32
  let c1_i32_363 : BitVec 32 := 1#32
  let v940 : BitVec 32 := Scalar.muli c7_i32_362 c1_i32_363
  let v941 : BitVec 32 := Scalar.addi c0_i32_364 v940
  v941.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_224 : BitVec 32 := 0#32
  let v723 : BitVec 1 := Scalar.cmpi .ne v2 c0_i32_224
  let v724 : BitVec 32 := Scalar.extui v723
  let c0_i32_226 : BitVec 32 := 0#32
  let v725 : BitVec 1 := Scalar.cmpi .ne v724 c0_i32_226
  v725

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_364 : BitVec 32 := 0#32
  let c0_i32_365 : BitVec 32 := 0#32
  let c0_i32_366 : BitVec 32 := 0#32
  ![v2.toNat, 0, 0, 0]
def k0_dev9 : Nat :=
  let c0_i32_363 : BitVec 32 := 0#32
  let c0_i32_361 : BitVec 32 := 0#32
  let c1_i32_362 : BitVec 32 := 1#32
  let v940 : BitVec 32 := Scalar.muli c0_i32_361 c1_i32_362
  let v941 : BitVec 32 := Scalar.addi c0_i32_363 v940
  v941.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_227 : BitVec 32 := 1#32
  let v726 : BitVec 1 := Scalar.cmpi .ne v2 c1_i32_227
  let v727 : BitVec 32 := Scalar.extui v726
  let c0_i32_229 : BitVec 32 := 0#32
  let v728 : BitVec 1 := Scalar.cmpi .ne v727 c0_i32_229
  v728

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_364 : BitVec 32 := 0#32
  let c0_i32_365 : BitVec 32 := 0#32
  let c0_i32_366 : BitVec 32 := 0#32
  ![v2.toNat, 0, 0, 0]
def k0_dev10 : Nat :=
  let c0_i32_363 : BitVec 32 := 0#32
  let c1_i32_361 : BitVec 32 := 1#32
  let c1_i32_362 : BitVec 32 := 1#32
  let v940 : BitVec 32 := Scalar.muli c1_i32_361 c1_i32_362
  let v941 : BitVec 32 := Scalar.addi c0_i32_363 v940
  v941.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_230 : BitVec 32 := 2#32
  let v729 : BitVec 1 := Scalar.cmpi .ne v2 c2_i32_230
  let v730 : BitVec 32 := Scalar.extui v729
  let c0_i32_232 : BitVec 32 := 0#32
  let v731 : BitVec 1 := Scalar.cmpi .ne v730 c0_i32_232
  v731

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_364 : BitVec 32 := 0#32
  let c0_i32_365 : BitVec 32 := 0#32
  let c0_i32_366 : BitVec 32 := 0#32
  ![v2.toNat, 0, 0, 0]
def k0_dev11 : Nat :=
  let c0_i32_363 : BitVec 32 := 0#32
  let c2_i32_361 : BitVec 32 := 2#32
  let c1_i32_362 : BitVec 32 := 1#32
  let v940 : BitVec 32 := Scalar.muli c2_i32_361 c1_i32_362
  let v941 : BitVec 32 := Scalar.addi c0_i32_363 v940
  v941.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_233 : BitVec 32 := 3#32
  let v732 : BitVec 1 := Scalar.cmpi .ne v2 c3_i32_233
  let v733 : BitVec 32 := Scalar.extui v732
  let c0_i32_235 : BitVec 32 := 0#32
  let v734 : BitVec 1 := Scalar.cmpi .ne v733 c0_i32_235
  v734

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_364 : BitVec 32 := 0#32
  let c0_i32_365 : BitVec 32 := 0#32
  let c0_i32_366 : BitVec 32 := 0#32
  ![v2.toNat, 0, 0, 0]
def k0_dev12 : Nat :=
  let c0_i32_363 : BitVec 32 := 0#32
  let c3_i32_361 : BitVec 32 := 3#32
  let c1_i32_362 : BitVec 32 := 1#32
  let v940 : BitVec 32 := Scalar.muli c3_i32_361 c1_i32_362
  let v941 : BitVec 32 := Scalar.addi c0_i32_363 v940
  v941.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_236 : BitVec 32 := 4#32
  let v735 : BitVec 1 := Scalar.cmpi .ne v2 c4_i32_236
  let v736 : BitVec 32 := Scalar.extui v735
  let c0_i32_238 : BitVec 32 := 0#32
  let v737 : BitVec 1 := Scalar.cmpi .ne v736 c0_i32_238
  v737

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_364 : BitVec 32 := 0#32
  let c0_i32_365 : BitVec 32 := 0#32
  let c0_i32_366 : BitVec 32 := 0#32
  ![v2.toNat, 0, 0, 0]
def k0_dev13 : Nat :=
  let c0_i32_363 : BitVec 32 := 0#32
  let c4_i32_361 : BitVec 32 := 4#32
  let c1_i32_362 : BitVec 32 := 1#32
  let v940 : BitVec 32 := Scalar.muli c4_i32_361 c1_i32_362
  let v941 : BitVec 32 := Scalar.addi c0_i32_363 v940
  v941.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_239 : BitVec 32 := 5#32
  let v738 : BitVec 1 := Scalar.cmpi .ne v2 c5_i32_239
  let v739 : BitVec 32 := Scalar.extui v738
  let c0_i32_241 : BitVec 32 := 0#32
  let v740 : BitVec 1 := Scalar.cmpi .ne v739 c0_i32_241
  v740

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_364 : BitVec 32 := 0#32
  let c0_i32_365 : BitVec 32 := 0#32
  let c0_i32_366 : BitVec 32 := 0#32
  ![v2.toNat, 0, 0, 0]
def k0_dev14 : Nat :=
  let c0_i32_363 : BitVec 32 := 0#32
  let c5_i32_361 : BitVec 32 := 5#32
  let c1_i32_362 : BitVec 32 := 1#32
  let v940 : BitVec 32 := Scalar.muli c5_i32_361 c1_i32_362
  let v941 : BitVec 32 := Scalar.addi c0_i32_363 v940
  v941.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_242 : BitVec 32 := 6#32
  let v741 : BitVec 1 := Scalar.cmpi .ne v2 c6_i32_242
  let v742 : BitVec 32 := Scalar.extui v741
  let c0_i32_244 : BitVec 32 := 0#32
  let v743 : BitVec 1 := Scalar.cmpi .ne v742 c0_i32_244
  v743

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_364 : BitVec 32 := 0#32
  let c0_i32_365 : BitVec 32 := 0#32
  let c0_i32_366 : BitVec 32 := 0#32
  ![v2.toNat, 0, 0, 0]
def k0_dev15 : Nat :=
  let c0_i32_363 : BitVec 32 := 0#32
  let c6_i32_361 : BitVec 32 := 6#32
  let c1_i32_362 : BitVec 32 := 1#32
  let v940 : BitVec 32 := Scalar.muli c6_i32_361 c1_i32_362
  let v941 : BitVec 32 := Scalar.addi c0_i32_363 v940
  v941.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_245 : BitVec 32 := 7#32
  let v744 : BitVec 1 := Scalar.cmpi .ne v2 c7_i32_245
  let v745 : BitVec 32 := Scalar.extui v744
  let c0_i32_247 : BitVec 32 := 0#32
  let v746 : BitVec 1 := Scalar.cmpi .ne v745 c0_i32_247
  v746

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_364 : BitVec 32 := 0#32
  let c0_i32_365 : BitVec 32 := 0#32
  let c0_i32_366 : BitVec 32 := 0#32
  ![v2.toNat, 0, 0, 0]
def k0_dev16 : Nat :=
  let c0_i32_363 : BitVec 32 := 0#32
  let c7_i32_361 : BitVec 32 := 7#32
  let c1_i32_362 : BitVec 32 := 1#32
  let v940 : BitVec 32 := Scalar.muli c7_i32_361 c1_i32_362
  let v941 : BitVec 32 := Scalar.addi c0_i32_363 v940
  v941.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_337 : BitVec 32 := 0#32
  let v916 : BitVec 1 := Scalar.cmpi .ne v2 c0_i32_337
  let v917 : BitVec 32 := Scalar.extui v916
  let c0_i32_339 : BitVec 32 := 0#32
  let v918 : BitVec 1 := Scalar.cmpi .ne v917 c0_i32_339
  v918

def k0_off17 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_363 : BitVec 32 := 0#32
  let c0_i32_364 : BitVec 32 := 0#32
  let c0_i32_365 : BitVec 32 := 0#32
  ![v2.toNat, 0, 0, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_340 : BitVec 32 := 1#32
  let v919 : BitVec 1 := Scalar.cmpi .ne v2 c1_i32_340
  let v920 : BitVec 32 := Scalar.extui v919
  let c0_i32_342 : BitVec 32 := 0#32
  let v921 : BitVec 1 := Scalar.cmpi .ne v920 c0_i32_342
  v921

def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_363 : BitVec 32 := 0#32
  let c0_i32_364 : BitVec 32 := 0#32
  let c0_i32_365 : BitVec 32 := 0#32
  ![v2.toNat, 0, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_343 : BitVec 32 := 2#32
  let v922 : BitVec 1 := Scalar.cmpi .ne v2 c2_i32_343
  let v923 : BitVec 32 := Scalar.extui v922
  let c0_i32_345 : BitVec 32 := 0#32
  let v924 : BitVec 1 := Scalar.cmpi .ne v923 c0_i32_345
  v924

def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_363 : BitVec 32 := 0#32
  let c0_i32_364 : BitVec 32 := 0#32
  let c0_i32_365 : BitVec 32 := 0#32
  ![v2.toNat, 0, 0, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_346 : BitVec 32 := 3#32
  let v925 : BitVec 1 := Scalar.cmpi .ne v2 c3_i32_346
  let v926 : BitVec 32 := Scalar.extui v925
  let c0_i32_348 : BitVec 32 := 0#32
  let v927 : BitVec 1 := Scalar.cmpi .ne v926 c0_i32_348
  v927

def k0_off20 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_363 : BitVec 32 := 0#32
  let c0_i32_364 : BitVec 32 := 0#32
  let c0_i32_365 : BitVec 32 := 0#32
  ![v2.toNat, 0, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_349 : BitVec 32 := 4#32
  let v928 : BitVec 1 := Scalar.cmpi .ne v2 c4_i32_349
  let v929 : BitVec 32 := Scalar.extui v928
  let c0_i32_351 : BitVec 32 := 0#32
  let v930 : BitVec 1 := Scalar.cmpi .ne v929 c0_i32_351
  v930

def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_363 : BitVec 32 := 0#32
  let c0_i32_364 : BitVec 32 := 0#32
  let c0_i32_365 : BitVec 32 := 0#32
  ![v2.toNat, 0, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_352 : BitVec 32 := 5#32
  let v931 : BitVec 1 := Scalar.cmpi .ne v2 c5_i32_352
  let v932 : BitVec 32 := Scalar.extui v931
  let c0_i32_354 : BitVec 32 := 0#32
  let v933 : BitVec 1 := Scalar.cmpi .ne v932 c0_i32_354
  v933

def k0_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_363 : BitVec 32 := 0#32
  let c0_i32_364 : BitVec 32 := 0#32
  let c0_i32_365 : BitVec 32 := 0#32
  ![v2.toNat, 0, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_355 : BitVec 32 := 6#32
  let v934 : BitVec 1 := Scalar.cmpi .ne v2 c6_i32_355
  let v935 : BitVec 32 := Scalar.extui v934
  let c0_i32_357 : BitVec 32 := 0#32
  let v936 : BitVec 1 := Scalar.cmpi .ne v935 c0_i32_357
  v936

def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_363 : BitVec 32 := 0#32
  let c0_i32_364 : BitVec 32 := 0#32
  let c0_i32_365 : BitVec 32 := 0#32
  ![v2.toNat, 0, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_358 : BitVec 32 := 7#32
  let v937 : BitVec 1 := Scalar.cmpi .ne v2 c7_i32_358
  let v938 : BitVec 32 := Scalar.extui v937
  let c0_i32_360 : BitVec 32 := 0#32
  let v939 : BitVec 1 := Scalar.cmpi .ne v938 c0_i32_360
  v939

def k0_off24 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_363 : BitVec 32 := 0#32
  let c0_i32_364 : BitVec 32 := 0#32
  let c0_i32_365 : BitVec 32 := 0#32
  ![v2.toNat, 0, 0, 0]
abbrev stage0_0 : Fin 1 → Memref sig .tc .vmem S8x1x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S512x16x8x64 : Shape := ⟨4, ![512, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S64 : Shape := ⟨1, ![64]⟩
abbrev S1x64 : Shape := ⟨2, ![1, 64]⟩
abbrev S8x1 : Shape := ⟨2, ![8, 1]⟩
abbrev S8x64x16 : Shape := ⟨3, ![8, 64, 16]⟩
abbrev S8x1024 : Shape := ⟨2, ![8, 1024]⟩
abbrev S8x8x1x1024 : Shape := ⟨4, ![8, 8, 1, 1024]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 59
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S512x16x8x64, .bf16⟩
  | .hbm, ⟨2, _⟩ => ⟨S512x16x8x64, .bf16⟩
  | .hbm, ⟨3, _⟩ => ⟨S8x64, .i32⟩
  | .hbm, ⟨4, _⟩ => ⟨S8, .i32⟩
  | .hbm, ⟨5, _⟩ => ⟨S8x1x8x64, .f32⟩
  | .hbm, ⟨6, _⟩ => ⟨S512x16x8x64, .f32⟩
  | .hbm, ⟨7, _⟩ => ⟨S512x16x8x64, .f32⟩
  | .hbm, ⟨8, _⟩ => ⟨S_, .i32⟩
  | .hbm, ⟨9, _⟩ => ⟨S8x64, .i32⟩
  | .hbm, ⟨10, _⟩ => ⟨S8x64, .i1⟩
  | .hbm, ⟨11, _⟩ => ⟨S_, .i32⟩
  | .hbm, ⟨12, _⟩ => ⟨S8x64, .i32⟩
  | .hbm, ⟨13, _⟩ => ⟨S8x64, .i32⟩
  | .hbm, ⟨14, _⟩ => ⟨S8x64, .i32⟩
  | .hbm, ⟨15, _⟩ => ⟨S8x64x1, .i32⟩
  | .hbm, ⟨16, _⟩ => ⟨S8x64x16x8x64, .f32⟩
  | .hbm, ⟨17, _⟩ => ⟨S8x1024x8x64, .f32⟩
  | .hbm, ⟨18, _⟩ => ⟨S_, .i32⟩
  | .hbm, ⟨19, _⟩ => ⟨S8x64, .i32⟩
  | .hbm, ⟨20, _⟩ => ⟨S8x64, .i1⟩
  | .hbm, ⟨21, _⟩ => ⟨S_, .i32⟩
  | .hbm, ⟨22, _⟩ => ⟨S8x64, .i32⟩
  | .hbm, ⟨23, _⟩ => ⟨S8x64, .i32⟩
  | .hbm, ⟨24, _⟩ => ⟨S8x64, .i32⟩
  | .hbm, ⟨25, _⟩ => ⟨S8x64x1, .i32⟩
  | .hbm, ⟨26, _⟩ => ⟨S8x64x16x8x64, .f32⟩
  | .hbm, ⟨27, _⟩ => ⟨S8x1024x8x64, .f32⟩
  | .hbm, ⟨28, _⟩ => ⟨S64, .i32⟩
  | .hbm, ⟨29, _⟩ => ⟨S1x64, .i32⟩
  | .hbm, ⟨30, _⟩ => ⟨S8x1, .i32⟩
  | .hbm, ⟨31, _⟩ => ⟨S8x64, .i32⟩
  | .hbm, ⟨32, _⟩ => ⟨S8x64, .i32⟩
  | .hbm, ⟨33, _⟩ => ⟨S8x64, .i1⟩
  | .hbm, ⟨34, _⟩ => ⟨S8x64x16, .i1⟩
  | .hbm, ⟨35, _⟩ => ⟨S8x1024, .i1⟩
  | .hbm, ⟨36, _⟩ => ⟨S8x8x1x1024, .f32⟩
  | .hbm, ⟨37, _⟩ => ⟨S_, .f32⟩
  | .hbm, ⟨38, _⟩ => ⟨S8x8x1x1024, .f32⟩
  | .hbm, ⟨39, _⟩ => ⟨S8x8x1x1024, .f32⟩
  | .hbm, ⟨40, _⟩ => ⟨S8x1x1x1024, .i1⟩
  | .hbm, ⟨41, _⟩ => ⟨S_, .f32⟩
  | .hbm, ⟨42, _⟩ => ⟨S_, .f32⟩
  | .hbm, ⟨43, _⟩ => ⟨S8x8x1x1024, .i1⟩
  | .hbm, ⟨44, _⟩ => ⟨S8x8x1x1024, .f32⟩
  | .hbm, ⟨45, _⟩ => ⟨S8x8x1x1024, .f32⟩
  | .hbm, ⟨46, _⟩ => ⟨S_, .f32⟩
  | .hbm, ⟨47, _⟩ => ⟨S8x8x1, .f32⟩
  | .hbm, ⟨48, _⟩ => ⟨S8x8x1x1, .f32⟩
  | .hbm, ⟨49, _⟩ => ⟨S8x8x1x1024, .f32⟩
  | .hbm, ⟨50, _⟩ => ⟨S8x8x1x1024, .f32⟩
  | .hbm, ⟨51, _⟩ => ⟨S8x8x1x1024, .f32⟩
  | .hbm, ⟨52, _⟩ => ⟨S_, .f32⟩
  | .hbm, ⟨53, _⟩ => ⟨S8x8x1, .f32⟩
  | .hbm, ⟨54, _⟩ => ⟨S8x8x1x1, .f32⟩
  | .hbm, ⟨55, _⟩ => ⟨S8x8x1x1024, .f32⟩
  | .hbm, ⟨56, _⟩ => ⟨S8x8x1x1024, .f32⟩
  | .hbm, ⟨57, _⟩ => ⟨S8x8x64x1, .f32⟩
  | .hbm, ⟨58, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.Values.lean ====
/-
# The values the kernel computes, head by head

One device reads its queries, its own pages of keys and values, the page table and the lengths. From
these it computes how often each of its key rows is asked for (`cntOf`) and, for every head, a partial
softmax: the weighted values `oH`, the largest score `mH` and the sum of weights `lH`. The three go into
the lanes 0..63, 64 and 65 of the partial buffer (`partOf`). After the exchange the eight partial results
are combined (`combine`). The functions here take the head as an argument; the kernel prints one copy
for each head.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.PagedProof

open Cert.KernelIdeal Cert.KernelIdeal.Gen
open Idealize.ShloMosaic Idealize.SL.Sem

variable {F : FTy → Type} [FloatOps F]

/-- The kernel's own name for the device it runs on, as a word. -/
def wordOf (c : Dev nD) : BitVec 32 := Scalar.remsi (Scalar.divsi (Dev.word c) 1#32) 8#32

theorem wordOf_eq (c : Dev nD) : wordOf c = BitVec.ofNat 32 c.val := by revert c; decide

/-! ## How often each key row is asked for -/

/-- The multiplicities of the key rows, from the local page ids `v49` of the table's entries. -/
def cntOf (w : BitVec 32) (v37 : Vec F S8x64 .i32) (v43 : Vec F S8 .i32) : FVec F S8x1024 .f32 :=
  let v49 : IVec S8x64 32 := k0_pay4 w v37 v43
  k0_pay76 v49 (k0_pay5 w v37 v43) (k0_pay6 w v37 v43) (k0_pay8 (k0_pay7 w v37 v43)) (k0_pay9 (F := F) v49) (k0_pay10 (F := F) v49)
    (k0_pay11 (F := F) v49) (k0_pay12 (F := F) v49) (k0_pay13 (F := F) v49) (k0_pay14 (F := F) v49) (k0_pay15 (F := F) v49)
    (k0_pay17 (F := F) (k0_pay16 v49)) (k0_pay18 (F := F) v49) (k0_pay19 (F := F) v49) (k0_pay20 (F := F) v49) (k0_pay21 (F := F) v49)
    (k0_pay22 (F := F) v49) (k0_pay23 (F := F) v49) (k0_pay25 (k0_pay24 (F := F) v49)) (k0_pay26 (F := F) v49) (k0_pay27 (F := F) v49)
    (k0_pay28 (F := F) v49) (k0_pay29 (F := F) v49) (k0_pay30 (F := F) v49) (k0_pay31 (F := F) v49) (k0_pay32 (F := F) v49)
    (k0_pay34 (F := F) (k0_pay33 v49)) (k0_pay35 (F := F) v49) (k0_pay36 (F := F) v49) (k0_pay37 (F := F) v49) (k0_pay38 (F := F) v49)
    (k0_pay39 (F := F) v49) (k0_pay40 (F := F) v49) (k0_pay42 (k0_pay41 (F := F) v49)) (k0_pay43 (F := F) v49) (k0_pay44 (F := F) v49)
    (k0_pay45 (F := F) v49) (k0_pay46 (F := F) v49) (k0_pay47 (F := F) v49) (k0_pay48 (F := F) v49) (k0_pay49 (F := F) v49)
    (k0_pay51 (F := F) (k0_pay50 v49)) (k0_pay52 (F := F) v49) (k0_pay53 (F := F) v49) (k0_pay54 (F := F) v49) (k0_pay55 (F := F) v49)
    (k0_pay56 (F := F) v49) (k0_pay57 (F := F) v49) (k0_pay59 (k0_pay58 (F := F) v49)) (k0_pay60 (F := F) v49) (k0_pay61 (F := F) v49)
    (k0_pay62 (F := F) v49) (k0_pay63 (F := F) v49) (k0_pay64 (F := F) v49) (k0_pay65 (F := F) v49) (k0_pay66 (F := F) v49)
    (k0_pay68 (F := F) (k0_pay67 v49)) (k0_pay69 (F := F) v49) (k0_pay70 (F := F) v49) (k0_pay71 (F := F) v49) (k0_pay72 (F := F) v49)
    (k0_pay73 (F := F) v49) (k0_pay74 (F := F) v49) (k0_pay75 (F := F) v49)

/-- The key rows that are asked for at all. -/
def mskOf (w : BitVec 32) (v37 : Vec F S8x64 .i32) (v43 : Vec F S8 .i32) : IVec S8x1024 1 :=
  let v49 : IVec S8x64 32 := k0_pay4 w v37 v43
  k0_pay77 v49 (k0_pay5 w v37 v43) (k0_pay6 w v37 v43) (k0_pay8 (k0_pay7 w v37 v43)) (k0_pay9 (F := F) v49) (k0_pay10 (F := F) v49)
    (k0_pay11 (F := F) v49) (k0_pay12 (F := F) v49) (k0_pay13 (F := F) v49) (k0_pay14 (F := F) v49) (k0_pay15 (F := F) v49)
    (k0_pay17 (F := F) (k0_pay16 v49)) (k0_pay18 (F := F) v49) (k0_pay19 (F := F) v49) (k0_pay20 (F := F) v49) (k0_pay21 (F := F) v49)
    (k0_pay22 (F := F) v49) (k0_pay23 (F := F) v49) (k0_pay25 (k0_pay24 (F := F) v49)) (k0_pay26 (F := F) v49) (k0_pay27 (F := F) v49)
    (k0_pay28 (F := F) v49) (k0_pay29 (F := F) v49) (k0_pay30 (F := F) v49) (k0_pay31 (F := F) v49) (k0_pay32 (F := F) v49)
    (k0_pay34 (F := F) (k0_pay33 v49)) (k0_pay35 (F := F) v49) (k0_pay36 (F := F) v49) (k0_pay37 (F := F) v49) (k0_pay38 (F := F) v49)
    (k0_pay39 (F := F) v49) (k0_pay40 (F := F) v49) (k0_pay42 (k0_pay41 (F := F) v49)) (k0_pay43 (F := F) v49) (k0_pay44 (F := F) v49)
    (k0_pay45 (F := F) v49) (k0_pay46 (F := F) v49) (k0_pay47 (F := F) v49) (k0_pay48 (F := F) v49) (k0_pay49 (F := F) v49)
    (k0_pay51 (F := F) (k0_pay50 v49)) (k0_pay52 (F := F) v49) (k0_pay53 (F := F) v49) (k0_pay54 (F := F) v49) (k0_pay55 (F := F) v49)
    (k0_pay56 (F := F) v49) (k0_pay57 (F := F) v49) (k0_pay59 (k0_pay58 (F := F) v49)) (k0_pay60 (F := F) v49) (k0_pay61 (F := F) v49)
    (k0_pay62 (F := F) v49) (k0_pay63 (F := F) v49) (k0_pay64 (F := F) v49) (k0_pay65 (F := F) v49) (k0_pay66 (F := F) v49)
    (k0_pay68 (F := F) (k0_pay67 v49)) (k0_pay69 (F := F) v49) (k0_pay70 (F := F) v49) (k0_pay71 (F := F) v49) (k0_pay72 (F := F) v49)
    (k0_pay73 (F := F) v49) (k0_pay74 (F := F) v49) (k0_pay75 (F := F) v49)

/-! ## One head -/

theorem slQ (h : Fin 8) : S8x8x64.Slices ![0, h.val, 0] S8x1x64 := by revert h; decide
theorem slK (h : Fin 8) : S1024x8x64.Slices ![0, h.val, 0] S1024x1x64 := by revert h; decide
theorem inO (h : Fin 8) : ∀ i, ![0, h.val, 0] i + S8x1x64.size i ≤ S8x8x128.size i := by revert h; decide
theorem inM (h : Fin 8) : ∀ i, ![0, h.val, 64] i + S8x1x1.size i ≤ S8x8x128.size i := by revert h; decide
theorem inL (h : Fin 8) : ∀ i, ![0, h.val, 65] i + S8x1x1.size i ≤ S8x8x128.size i := by revert h; decide

/-- Scores of head `h`: queries times keys, scaled. -/
def scH (h : Fin 8) (q : FVec F S8x8x64 .bf16) (k : FVec F S1024x8x64 .bf16) : FVec F S8x1024 .f32 :=
  mulf (matmul dot_S8x64_S1024x64_S8x1024_1_1_0_0_n_n none
      (shapeCast S8x64 (extractStridedSlice S8x1x64 ![0, h.val, 0] q (slQ h)) shapeCasts_S8x1x64_S8x64)
      (shapeCast S1024x64 (extractStridedSlice S1024x1x64 ![0, h.val, 0] k (slK h)) shapeCasts_S1024x1x64_S1024x64)
      (constant S8x1024 .f32 0x00000000#32))
    (broadcast S8x1024 (Scalar.ofBits .f32 0x3E000000#32))

/-- The largest score among the rows asked for. -/
def mH (msk : IVec S8x1024 1) (sc : FVec F S8x1024 .f32) : FVec F S8x1 .f32 :=
  shapeCast S8x1 (multiReduction .maximumf [1] S8
    (select msk sc (broadcast S8x1024 (Scalar.ofBits .f32 0xF149F2CA#32))) 0xFF800000#32
    reduces_S8x1024_S8 (.inl rfl) rfl) shapeCasts_S8_S8x1

/-- The weights: multiplicity times the exponential of the shifted score, zero at rows not asked for. -/
def eH (cnt : FVec F S8x1024 .f32) (msk : IVec S8x1024 1) (sc : FVec F S8x1024 .f32) : FVec F S8x1024 .f32 :=
  select msk (mulf cnt (exp (subf sc (broadcastTo S8x1024 (mH msk sc) broadcasts_S8x1_S8x1024))))
    (broadcast S8x1024 (Scalar.ofBits .f32 0x00000000#32))

/-- The sum of the weights. -/
def lH (e : FVec F S8x1024 .f32) : FVec F S8x1 .f32 :=
  shapeCast S8x1 (multiReduction .add [1] S8 e 0x00000000#32 reduces_S8x1024_S8 (.inl rfl) rfl) shapeCasts_S8_S8x1

/-- The weighted values of head `h`. -/
def oH (h : Fin 8) (v : FVec F S1024x8x64 .bf16) (e : FVec F S8x1024 .f32) : FVec F S8x64 .f32 :=
  matmul dot_S8x1024_S1024x64_S8x64_1_0_0_1_n_n none (truncf .bf16 e bitsLt_bf16_f32)
    (shapeCast S1024x64 (extractStridedSlice S1024x1x64 ![0, h.val, 0] v (slK h)) shapeCasts_S1024x1x64_S1024x64)
    (constant S8x64 .f32 0x00000000#32)

/-! ## The partial buffer -/

abbrev pM : Memref sig .tc .vmem S8x8x128 .f32 := Memref.whole cc0_scratch0

abbrev rO (h : Fin 8) : Rect S8x8x128 := Rect.unit (s := S8x8x128) ![0, h.val, 0] S8x1x64.size (inO h)
abbrev rM (h : Fin 8) : Rect S8x8x128 := Rect.unit (s := S8x8x128) ![0, h.val, 64] S8x1x1.size (inM h)
abbrev rL (h : Fin 8) : Rect S8x8x128 := Rect.unit (s := S8x8x128) ![0, h.val, 65] S8x1x1.size (inL h)

/-- The contents of the partial buffer. -/
abbrev PartBuf (F : FTy → Type) : Type := (cc0_scratch0 : Ref sig .tc).ty.Contents (Elt F)

/-- `f` with the rectangle `r` overwritten by `w`. -/
def put (r : Rect S8x8x128) (w : FVec F r.shape .f32) (f : PartBuf F) : PartBuf F :=
  (pM.access r).write (Elt F) f w Finset.univ

/-- The three writes of head `h`. -/
def stepH (h : Fin 8) (q : FVec F S8x8x64 .bf16) (k v : FVec F S1024x8x64 .bf16) (cnt : FVec F S8x1024 .f32)
    (msk : IVec S8x1024 1) (f : PartBuf F) : PartBuf F :=
  put (rL h) (shapeCast S8x1x1 (lH (eH cnt msk (scH h q k))) shapeCasts_S8x1_S8x1x1)
    (put (rM h) (shapeCast S8x1x1 (mH msk (scH h q k)) shapeCasts_S8x1_S8x1x1)
      (put (rO h) (shapeCast S8x1x64 (oH h v (eH cnt msk (scH h q k))) shapeCasts_S8x64_S8x1x64) f))

/-- The partial buffer after all the heads, from contents `f`. -/
def partOf (q : FVec F S8x8x64 .bf16) (k v : FVec F S1024x8x64 .bf16) (cnt : FVec F S8x1024 .f32)
    (msk : IVec S8x1024 1) (f : PartBuf F) : PartBuf F :=
  stepH 7 q k v cnt msk (stepH 6 q k v cnt msk (stepH 5 q k v cnt msk (stepH 4 q k v cnt msk
    (stepH 3 q k v cnt msk (stepH 2 q k v cnt msk (stepH 1 q k v cnt msk (stepH 0 q k v cnt msk f)))))))

/-! ## The combination -/

def laneO (x : FVec F S8x8x128 .f32) : FVec F S8x8x64 .f32 :=
  extractStridedSlice S8x8x64 ![0, 0, 0] x slices_S8x8x128_o0_0_0_S8x8x64
def laneM (x : FVec F S8x8x128 .f32) : FVec F S8x8x1 .f32 :=
  extractStridedSlice S8x8x1 ![0, 0, 64] x slices_S8x8x128_o0_0_64_S8x8x1
def laneL (x : FVec F S8x8x128 .f32) : FVec F S8x8x1 .f32 :=
  extractStridedSlice S8x8x1 ![0, 0, 65] x slices_S8x8x128_o0_0_65_S8x8x1

/-- What device `w` takes for the device numbered `p`: its own value in its own place, the received one elsewhere. -/
def pick {α : Type} (w p : BitVec 32) (mine got : α) : α := Scalar.select (Scalar.cmpi .eq w p) mine got

def gmaxOf (m : Fin 8 → FVec F S8x8x1 .f32) : FVec F S8x8x1 .f32 :=
  maximumf (maximumf (maximumf (maximumf (maximumf (maximumf (maximumf (m 0) (m 1)) (m 2)) (m 3)) (m 4)) (m 5)) (m 6)) (m 7)

def wgtOf (m : Fin 8 → FVec F S8x8x1 .f32) (p : Fin 8) : FVec F S8x8x1 .f32 := exp (subf (m p) (gmaxOf m))

def numOf (o : Fin 8 → FVec F S8x8x64 .f32) (m : Fin 8 → FVec F S8x8x1 .f32) (p : Fin 8) (acc : FVec F S8x8x64 .f32) :
    FVec F S8x8x64 .f32 :=
  addf acc (mulf (broadcastTo S8x8x64 (wgtOf m p) broadcasts_S8x8x1_S8x8x64) (o p))

def denOf (m l : Fin 8 → FVec F S8x8x1 .f32) (p : Fin 8) (acc : FVec F S8x8x1 .f32) : FVec F S8x8x1 .f32 :=
  addf acc (mulf (wgtOf m p) (l p))

/-- The kernel's result from the eight partial results. -/
def combine (o : Fin 8 → FVec F S8x8x64 .f32) (m l : Fin 8 → FVec F S8x8x1 .f32) : FVec F S8x1x8x64 .f32 :=
  shapeCast S8x1x8x64
    (divf
      (numOf o m 7 (numOf o m 6 (numOf o m 5 (numOf o m 4 (numOf o m 3 (numOf o m 2 (numOf o m 1 (numOf o m 0
        (broadcast S8x8x64 (Scalar.ofBits .f32 0x00000000#32))))))))))
      (broadcastTo S8x8x64
        (denOf m l 7 (denOf m l 6 (denOf m l 5 (denOf m l 4 (denOf m l 3 (denOf m l 2 (denOf m l 1 (denOf m l 0
          (broadcast S8x8x1 (Scalar.ofBits .f32 0x00000000#32))))))))))
        broadcasts_S8x8x1_S8x8x64))
    shapeCasts_S8x8x64_S8x1x8x64

/-- The result of the device named `w` whose own partial buffer is `mine` and whose landing slots hold `got`. -/
def resultOf (w : BitVec 32) (mine : FVec F S8x8x128 .f32) (got : Fin 8 → FVec F S8x8x128 .f32) : FVec F S8x1x8x64 .f32 :=
  combine (fun p => pick w (BitVec.ofNat 32 p.val) (laneO mine) (laneO (got p)))
    (fun p => pick w (BitVec.ofNat 32 p.val) (laneM mine) (laneM (got p)))
    (fun p => pick w (BitVec.ofNat 32 p.val) (laneL mine) (laneL (got p)))

end Cert.PagedProof

end
-- ==== Proof.Schedule.lean ====
/-
# The protocol: who signals whom, how much, and what is handed over

Device `c` has one barrier cell, eight send cells (one per peer) and eight receive cells (one per peer).

* `barCell c`: every other device `p` signals it once. The signal of `p` hands over slot `c` of `p`'s
  landing buffer, at any contents, so that `c` may copy into it. `c` waits for the seven signals.
* `recvCell c p`, `p ≠ c`: the copy of `p` into slot `p` of `c`'s landing buffer credits it. It hands over the
  slot, holding the partial result of `p`. `c` waits for it once.
* `sendCell c p`, `p ≠ c`: `c`'s own copy to `p` credits it. It hands back the share of the partial buffer
  that the copy read. `c` waits for it at the very end.

Cells with `p = c` are never used. Each cell has the one round 0. What a device owes at launch is its signal to
every other barrier cell and its copy to every other receive cell. The barrier cells have level 1, the receive
cells level 2 and everything else level 0, and every wait happens below what is still owed.
-/
module

public import proofs.«01_k».proof.Proof.Values
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## Buffers, semaphores and cells -/

/-- The landing buffer: eight slots, one for the partial result of each device. -/
abbrev bM : Memref sig .tc .vmem S8x8x8x128 .f32 := Memref.whole cc0_scratch1

theorem inSlot (p : Dev nD) : ∀ a, (![p.val, 0, 0, 0] : Fin 4 → Nat) a + S1x8x8x128.size a ≤ S8x8x8x128.size a := by
  revert p; decide
theorem inSem (p : Dev nD) : ∀ a, (![p.val] : Fin 1 → Nat) a + S1.size a ≤ S8.size a := by revert p; decide

/-- The rectangle of slot `p`. -/
abbrev rSlot (p : Dev nD) : Rect S8x8x8x128 := Rect.unit (s := S8x8x8x128) ![p.val, 0, 0, 0] S1x8x8x128.size (inSlot p)

/-- Slot `p` of the landing buffer. -/
abbrev slotM (p : Dev nD) : Memref sig .tc .vmem S8x8x128 .f32 :=
  (bM.slice (rSlot p) (fun _ => rfl)).squeeze S8x8x128 squeezes_S1x8x8x128_S8x8x128

abbrev barS : Sem sig := (SemArray.scalar (sig.barrier 0 rfl) : Sems sig S_).sem
def sendS (p : Dev nD) : DmaSem sig :=
  ((cc0_scratch2.slice (Rect.unit (s := S8) ![p.val] S1.size (inSem p))).squeeze S_ squeezes_S1_S_).sem
def recvS (p : Dev nD) : DmaSem sig :=
  ((cc0_scratch3.slice (Rect.unit (s := S8) ![p.val] S1.size (inSem p))).squeeze S_ squeezes_S1_S_).sem

theorem sendS_val (p : Dev nD) : (sendS p).val = 6 + p.val := by revert p; decide
theorem recvS_val (p : Dev nD) : (recvS p).val = 14 + p.val := by revert p; decide

abbrev barCell (c : Dev nD) : GSem nD τ sig := ((c : Thread nD τ), .reg barS)
abbrev sendCell (c p : Dev nD) : GSem nD τ sig := ((c : Thread nD τ), .dma (sendS p))
abbrev recvCell (c p : Dev nD) : GSem nD τ sig := ((c : Thread nD τ), .dma (recvS p))

/-- The kernel's own semaphores: the send cells, then the receive cells. -/
def osem : Fin 16 → SemLoc sig := fun k => .dma ⟨6 + k.val, by have := k.isLt; show 6 + k.val < 22; omega⟩

/-- The credit of one copy. -/
abbrev N : ℕ := (slotM 0).view.dmaCredit
theorem N_pos : 0 < N := View.dmaCredit_pos _ (by decide)

/-! ## Contents -/

/-- The contents of the staging buffers once filled: device `c`'s blocks of the operands. -/
def stQ (c : Dev nD) : (cc0_stg0_0 : Ref sig .tc).ty.Contents (Elt F) :=
  (win0_0.blk (0 : Fin 1)).view.read (Elt F) ((s₀ m ρ).mem ((c : Thread nD τ).loc main_arg0))
def stK (c : Dev nD) : (cc0_stg1_0 : Ref sig .tc).ty.Contents (Elt F) :=
  (win0_1.blk (0 : Fin 1)).view.read (Elt F) ((s₀ m ρ).mem ((c : Thread nD τ).loc main_arg1))
def stV (c : Dev nD) : (cc0_stg2_0 : Ref sig .tc).ty.Contents (Elt F) :=
  (win0_2.blk (0 : Fin 1)).view.read (Elt F) ((s₀ m ρ).mem ((c : Thread nD τ).loc main_arg2))
def stT (c : Dev nD) : (cc0_stg3_0 : Ref sig .tc).ty.Contents (Elt F) :=
  (win0_3.blk (0 : Fin 1)).view.read (Elt F) ((s₀ m ρ).mem ((c : Thread nD τ).loc main_arg3))
def stN (c : Dev nD) : (cc0_stg4_0 : Ref sig .tc).ty.Contents (Elt F) :=
  (win0_4.blk (0 : Fin 1)).view.read (Elt F) ((s₀ m ρ).mem ((c : Thread nD τ).loc main_arg4))

/-- The partial buffer of device `c` after all its writes, from contents `f`. -/
def partW (c : Dev nD) (f : PartBuf F) : PartBuf F :=
  partOf (k0_pay1 (stQ m ρ c)) (k0_pay2 (stK m ρ c)) (k0_pay3 (stV m ρ c))
    (cntOf (wordOf c) (stT m ρ c) (stN m ρ c)) (mskOf (wordOf c) (stT m ρ c) (stN m ρ c)) f

/-! ## The payloads -/

/-- Slot `p` of device `c`'s landing buffer, at any contents. -/
def slotAny (c p : Dev nD) : sProp 𝕄 :=
  iprop(∃ g : Buf (Elt F) ((slotM p).view.loc (c : Thread nD τ)),
    (slotM p).view.loc (c : Thread nD τ) ↦[(slotM p).view.set]{fullShare} g)

/-- Contents `g` show, in slot `p`, the partial result of `p`, its writes made over contents `f`. -/
def Shows (p : Dev nD) (f : PartBuf F) (g : (cc0_scratch1 : Ref sig .tc).ty.Contents (Elt F)) : Prop :=
  (slotM p).view.read (Elt F) g = partW m ρ p f

/-- Slot `p` of device `c`'s landing buffer, holding the partial result of `p`. -/
def slotGot (c p : Dev nD) : sProp 𝕄 :=
  iprop(∃ (f : PartBuf F) (g : Buf (Elt F) ((slotM p).view.loc (c : Thread nD τ))),
    ⌜Shows m ρ p f g⌝ ∗
    ((slotM p).view.loc (c : Thread nD τ) ↦[(slotM p).view.set]{fullShare} g))

/-- Share `p` of eight of device `c`'s partial buffer, after all its writes. -/
def partShare (c p : Dev nD) : sProp 𝕄 :=
  iprop(∃ f : PartBuf F, pM.view.loc (c : Thread nD τ) ↦[pM.view.set]{ShareLeaves.leaf 3 fullShare p} partW m ρ c f)

omit [FloatOps F] in
instance slotAny_storable (c p : Dev nD) : BI.Storable (upEmb : UEmb _ 𝕄) (slotAny (F := F) c p) := by
  unfold slotAny; infer_instance
set_option synthInstance.maxHeartbeats 400000 in
instance slotGot_storable (c p : Dev nD) : BI.Storable (upEmb : UEmb _ 𝕄) (slotGot (F := F) m ρ c p) := by
  unfold slotGot; infer_instance
instance partShare_storable (c p : Dev nD) : BI.Storable (upEmb : UEmb _ 𝕄) (partShare (F := F) m ρ c p) := by
  unfold partShare; infer_instance

/-! ## The schedule -/

/-- The number of a DMA semaphore (0 for the others), and the peer it belongs to. -/
def numOfSem (s : SemLoc sig) : ℕ := match s with | .dma q => q.val | .reg _ => 0
def peerOf (s : SemLoc sig) : Dev nD := ⟨(numOfSem s + 2) % 8, Nat.mod_lt _ (by decide)⟩

theorem numOfSem_send (p : Dev nD) : numOfSem (.dma (sendS p)) = 6 + p.val := sendS_val p
theorem numOfSem_recv (p : Dev nD) : numOfSem (.dma (recvS p)) = 14 + p.val := recvS_val p
theorem peerOf_send (p : Dev nD) : peerOf (.dma (sendS p)) = p := by revert p; decide
theorem peerOf_recv (p : Dev nD) : peerOf (.dma (recvS p)) = p := by revert p; decide
theorem send_ne_bar (p : Dev nD) : (SemLoc.dma (sendS p) : SemLoc sig) ≠ .reg barS := fun h => by cases h
theorem recv_ne_bar (p : Dev nD) : (SemLoc.dma (recvS p) : SemLoc sig) ≠ .reg barS := fun h => by cases h

def dutiesOf (g : GSem nD τ sig) (r : ℕ) : Finset (Dev nD) :=
  if r = 0 ∧ g.1.2 = .tc then
    if g.2 = .reg barS then Finset.univ.erase g.1.1
    else if 6 ≤ numOfSem g.2 ∧ peerOf g.2 ≠ g.1.1 then {0} else ∅
  else ∅

def payloadOf (g : GSem nD τ sig) (d : Dev nD) : sProp 𝕄 :=
  if g.2 = .reg barS then slotAny d g.1.1
  else if 14 ≤ numOfSem g.2 then slotGot m ρ g.1.1 (peerOf g.2)
  else partShare m ρ g.1.1 (peerOf g.2)

def pagedRd : Rounds.Schedule (GSem nD τ sig) (Dev nD) 𝕄 where
  duties := dutiesOf
  unitless _ := False
  amount g _ _ := if g.2 = .reg barS then 1 else N
  payload g _ d := payloadOf m ρ g d
  amount_pos g _ _ _ := by
    by_cases h : g.2 = .reg barS
    · rw [if_pos h]; exact Nat.one_pos
    · rw [if_neg h]; exact N_pos

instance pagedRd_payload_storable (g : GSem nD τ sig) (r : ℕ) (d : Dev nD) :
    BI.Storable (upEmb : UEmb _ 𝕄) ((pagedRd (F := F) m ρ).payload g r d) := by
  show BI.Storable upEmb (payloadOf m ρ g d)
  unfold payloadOf
  (repeat' split) <;> infer_instance

section Sched

theorem duties_bar (c : Dev nD) : (pagedRd (F := F) m ρ).duties (barCell c) 0 = Finset.univ.erase c := by
  show dutiesOf (barCell c) 0 = _
  unfold dutiesOf; rw [if_pos ⟨rfl, rfl⟩, if_pos rfl]
theorem duties_send {c p : Dev nD} (h : p ≠ c) : (pagedRd (F := F) m ρ).duties (sendCell c p) 0 = {0} := by
  show dutiesOf (sendCell c p) 0 = _
  unfold dutiesOf
  rw [if_pos ⟨rfl, rfl⟩, if_neg (send_ne_bar p),
    if_pos ⟨by rw [numOfSem_send]; omega, by rw [peerOf_send]; exact h⟩]
theorem duties_recv {c p : Dev nD} (h : p ≠ c) : (pagedRd (F := F) m ρ).duties (recvCell c p) 0 = {0} := by
  show dutiesOf (recvCell c p) 0 = _
  unfold dutiesOf
  rw [if_pos ⟨rfl, rfl⟩, if_neg (recv_ne_bar p),
    if_pos ⟨by rw [numOfSem_recv]; omega, by rw [peerOf_recv]; exact h⟩]
theorem duties_send_self (c : Dev nD) (r : ℕ) : (pagedRd (F := F) m ρ).duties (sendCell c c) r = ∅ := by
  show dutiesOf (sendCell c c) r = _
  unfold dutiesOf
  rw [if_neg (send_ne_bar c), if_neg (show ¬ (_ ∧ peerOf (.dma (sendS c)) ≠ c) from fun h => h.2 (peerOf_send c)), ite_self]
theorem duties_recv_self (c : Dev nD) (r : ℕ) : (pagedRd (F := F) m ρ).duties (recvCell c c) r = ∅ := by
  show dutiesOf (recvCell c c) r = _
  unfold dutiesOf
  rw [if_neg (recv_ne_bar c), if_neg (show ¬ (_ ∧ peerOf (.dma (recvS c)) ≠ c) from fun h => h.2 (peerOf_recv c)), ite_self]
theorem duties_later (g : GSem nD τ sig) : ∀ r, 1 ≤ r → (pagedRd (F := F) m ρ).duties g r = ∅ := fun r hr => by
  show dutiesOf g r = _
  unfold dutiesOf; rw [if_neg fun h => by omega]

theorem amount_bar (c d : Dev nD) : (pagedRd (F := F) m ρ).amount (barCell c) 0 d = 1 := by
  dsimp only [pagedRd]; exact if_pos rfl
theorem amount_send (c p d : Dev nD) : (pagedRd (F := F) m ρ).amount (sendCell c p) 0 d = N := by
  dsimp only [pagedRd]; exact if_neg (send_ne_bar p)
theorem amount_recv (c p d : Dev nD) : (pagedRd (F := F) m ρ).amount (recvCell c p) 0 d = N := by
  dsimp only [pagedRd]; exact if_neg (recv_ne_bar p)

theorem expect_bar (c : Dev nD) : (pagedRd (F := F) m ρ).expect (barCell c) 0 = 7 := by
  unfold Schedule.expect Schedule.amountOf
  rw [duties_bar, Finset.sum_congr rfl fun d _ => amount_bar m ρ c d, Finset.sum_const, smul_eq_mul, mul_one,
    Finset.card_erase_of_mem (Finset.mem_univ _), Finset.card_univ, Fintype.card_fin]
  rfl
theorem expect_send {c p : Dev nD} (h : p ≠ c) : (pagedRd (F := F) m ρ).expect (sendCell c p) 0 = N := by
  unfold Schedule.expect Schedule.amountOf; rw [duties_send m ρ h, Finset.sum_singleton, amount_send]
theorem expect_recv {c p : Dev nD} (h : p ≠ c) : (pagedRd (F := F) m ρ).expect (recvCell c p) 0 = N := by
  unfold Schedule.expect Schedule.amountOf; rw [duties_recv m ρ h, Finset.sum_singleton, amount_recv]

theorem payload_bar (c d : Dev nD) : (pagedRd (F := F) m ρ).payload (barCell c) 0 d = slotAny d c := by
  show payloadOf m ρ (barCell c) d = _
  unfold payloadOf; rw [if_pos rfl]
theorem payload_send (c p d : Dev nD) : (pagedRd (F := F) m ρ).payload (sendCell c p) 0 d = partShare m ρ c p := by
  show payloadOf m ρ (sendCell c p) d = _
  unfold payloadOf
  rw [if_neg (send_ne_bar p), if_neg (by rw [numOfSem_send]; have := p.isLt; have : nD = 8 := rfl; omega)]
  rw [peerOf_send]
theorem payload_recv (c p d : Dev nD) : (pagedRd (F := F) m ρ).payload (recvCell c p) 0 d = slotGot m ρ c p := by
  show payloadOf m ρ (recvCell c p) d = _
  unfold payloadOf
  rw [if_neg (recv_ne_bar p), if_pos (by rw [numOfSem_recv]; omega), peerOf_recv]

theorem rest_bar (c : Dev nD) :
    bigSep ((pagedRd (F := F) m ρ).duties (barCell c) 0 \ ∅) (fun d => (pagedRd (F := F) m ρ).payload (barCell c) 0 d)
      = bigSep (Finset.univ.erase c) (fun d => slotAny (F := F) d c) := by
  rw [Finset.sdiff_empty, duties_bar]
  exact bigSep_congr fun d _ => payload_bar m ρ c d
theorem rest_send {c p : Dev nD} (h : p ≠ c) :
    bigSep ((pagedRd (F := F) m ρ).duties (sendCell c p) 0 \ ∅) (fun d => (pagedRd (F := F) m ρ).payload (sendCell c p) 0 d)
      = partShare m ρ c p := by
  rw [Finset.sdiff_empty, duties_send m ρ h, bigSep_singleton, payload_send]
theorem rest_recv {c p : Dev nD} (h : p ≠ c) :
    bigSep ((pagedRd (F := F) m ρ).duties (recvCell c p) 0 \ ∅) (fun d => (pagedRd (F := F) m ρ).payload (recvCell c p) 0 d)
      = slotGot m ρ c p := by
  rw [Finset.sdiff_empty, duties_recv m ρ h, bigSep_singleton, payload_recv]

end Sched

/-! ## What each device owes; the levels -/

/-- The copies device `c` still owes: one per peer on the list. -/
def owedSends (c : Dev nD) : List (Dev nD) → CellTallies nD τ sig Unit
  | [] => 0
  | p :: l => owedSends c l + if p = c then 0 else tallyAt (recvCell p c) () N

/-- The signals device `c` still owes, beside all its copies. -/
def owedSigs (c : Dev nD) (base : CellTallies nD τ sig Unit) : List (Dev nD) → CellTallies nD τ sig Unit
  | [] => base
  | p :: l => owedSigs c base l + if p = c then 0 else tallyAt (barCell p) () 1

theorem owedSends_cons (c p : Dev nD) (l : List (Dev nD)) :
    owedSends c (p :: l) = owedSends c l + if p = c then 0 else tallyAt (recvCell p c) () N := rfl
theorem owedSigs_cons (c p : Dev nD) (b : CellTallies nD τ sig Unit) (l : List (Dev nD)) :
    owedSigs c b (p :: l) = owedSigs c b l + if p = c then 0 else tallyAt (barCell p) () 1 := rfl

/-- The devices, in the order the kernel goes through them. -/
abbrev devs : List (Dev nD) := [0, 1, 2, 3, 4, 5, 6, 7]

def O₁ (c : Dev nD) : CellTallies nD τ sig Unit := owedSends c devs
def O₀ (c : Dev nD) : CellTallies nD τ sig Unit := owedSigs c (O₁ c) devs

def L (g : GSem nD τ sig) : Finset Unit := if g.1.2 = .tc then {()} else ∅
def lv (g : GSem nD τ sig) (_ : Unit) : ℕ := if g.2 = .reg barS then 1 else if 14 ≤ numOfSem g.2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c p : Dev nD) (u : Unit) : lv (recvCell c p) u = 2 := by
  unfold lv; rw [if_neg (recv_ne_bar p), if_pos (by rw [numOfSem_recv]; omega)]

theorem tally_pos {g h : GSem nD τ sig} {n : ℕ} {u : Unit} (hp : 0 < tallyAt (Ix := Unit) h () n g u) : g = h := by
  rw [tallyAt_apply] at hp
  by_contra hn
  rw [if_neg (fun h' => hn h'.1)] at hp
  exact Nat.lt_irrefl 0 hp

theorem owedSends_pos {c : Dev nD} {g : GSem nD τ sig} {u : Unit} : ∀ {l : List (Dev nD)}, 0 < owedSends c l g u → ∃ p, g = recvCell p c
  | [], h => absurd h (Nat.lt_irrefl 0)
  | p :: l, h => by
    unfold owedSends at h
    rw [Pi.add_apply, Finsupp.add_apply] at h
    rcases Nat.lt_or_ge 0 (owedSends c l g u) with h' | h'
    · exact owedSends_pos h'
    · have h2 : 0 < (if p = c then (0 : CellTallies nD τ sig Unit) else tallyAt (recvCell p c) () N) g u := by omega
      by_cases hp : p = c
      · rw [if_pos hp] at h2; exact absurd h2 (Nat.lt_irrefl 0)
      · rw [if_neg hp] at h2; exact ⟨p, tally_pos h2⟩

theorem owedSigs_pos {c : Dev nD} {b : CellTallies nD τ sig Unit} {g : GSem nD τ sig} {u : Unit} :
    ∀ {l : List (Dev nD)}, 0 < owedSigs c b l g u → 0 < b g u ∨ ∃ p, g = barCell p
  | [], h => Or.inl h
  | p :: l, h => by
    unfold owedSigs at h
    rw [Pi.add_apply, Finsupp.add_apply] at h
    rcases Nat.lt_or_ge 0 (owedSigs c b l g u) with h' | h'
    · exact owedSigs_pos h'
    · have h2 : 0 < (if p = c then (0 : CellTallies nD τ sig Unit) else tallyAt (barCell p) () 1) g u := by omega
      by_cases hp : p = c
      · rw [if_pos hp] at h2; exact absurd h2 (Nat.lt_irrefl 0)
      · rw [if_neg hp] at h2; exact Or.inr ⟨p, tally_pos h2⟩

theorem O₀_pos {c : Dev nD} {g : GSem nD τ sig} {u : Unit} (h : 0 < O₀ c g u) : (∃ p, g = recvCell p c) ∨ ∃ p, g = barCell p :=
  (owedSigs_pos h).imp_left owedSends_pos

omit [FloatOps F] in
/-- A wait on a staging semaphore is below everything owed. -/
theorem mayWait_stage (c : Dev nD) (q : DmaSem sig) (hq : numOfSem (.dma q) < 14) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by
        rw [Finset.mem_singleton.mp hp]; unfold lv
        rw [if_neg (fun h => by cases h), if_neg (by show ¬ 14 ≤ numOfSem (.dma q); omega)])
      (fun g u hg => by
        rcases O₀_pos hg with ⟨p, rfl⟩ | ⟨p, rfl⟩
        · rw [lv_recv]; decide
        · rw [lv_bar]; decide)
  · rw [MayWait_zero]; iintro -; iempintro

omit [FloatOps F] in
/-- At its barrier wait a device owes its copies only. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨p, rfl⟩ := owedSends_pos hg; exact Finset.mem_singleton_self _)
    (fun p hp => by rw [Finset.mem_singleton.mp hp, lv_bar])
    (fun g u hg => by obtain ⟨p, rfl⟩ := owedSends_pos hg; rw [lv_recv]; decide)

end Cert.PagedProof

end
-- ==== Proof.Steps.lean ====
/-
# The steps of the exchange, one lemma per kind of step

Every step of the exchange is printed once per peer, under the condition that the peer is not the device
itself. Each lemma here is about one such conditional step at a symbolic device `c` and a symbolic peer
`p`: what it needs (`sigIn`, `sndIn`, `rcvIn`, `ackIn`) and what it leaves (`sndOut`, `rcvOut`, `ackOut`).
-/
module

public import proofs.«01_k».proof.Proof.Schedule

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `x` on device `c`. -/
abbrev runs {α : Type} (c : Dev nD) (x : Prog (TpuEff nD τ sig (Elt F) Λ₀ .tc) α) (Q : α → sProp 𝕄) : sProp 𝕄 :=
  wp frame (wpE (defs₀ (F := F)) 𝒱₀ (c : Thread nD τ) none) Set.univ x Q

/-! ## All the cells, and what every device knows of them -/

/-- The cells of one device: the barrier, the send cells, the receive cells. -/
abbrev CI : Type := Unit ⊕ (Dev nD ⊕ Dev nD)

def csem : CI → SemLoc sig
  | .inl _ => .reg barS
  | .inr (.inl p) => .dma (sendS p)
  | .inr (.inr p) => .dma (recvS p)

abbrev kcell (x : Dev nD × CI) : GSem nD τ sig := ((x.1 : Thread nD τ), csem x.2)

variable (K : Dev nD × CI → ℕ)

/-- All the cells' invariants, and that every cell has reached round 0. -/
def recs : sProp 𝕄 :=
  iprop(bigSep Finset.univ (fun x => cellInv ER (pagedRd m ρ) (K x) (kcell x)) ∗ bigSep Finset.univ (fun x => reached ER (kcell x) 0))

instance recs_persistent : BI.Persistent (recs m ρ K) := by unfold recs; infer_instance

theorem recs_inv (x : Dev nD × CI) : recs m ρ K ⊢ cellInv ER (pagedRd m ρ) (K x) (kcell x) := by
  unfold recs
  exact sep_elim_left.trans (bigSep_elim (Φ := fun x => cellInv ER (pagedRd m ρ) (K x) (kcell x)) (Finset.mem_univ x))
theorem recs_reached (x : Dev nD × CI) : recs m ρ K ⊢ reached ER (kcell x) 0 := by
  unfold recs
  exact sep_elim_right.trans (bigSep_elim (Φ := fun x => (reached ER (kcell x) 0 : sProp 𝕄)) (Finset.mem_univ x))

/-- Device `c` owes `O`, whatever it has waited for. -/
def owesE (c : Dev nD) (O : CellTallies nD τ sig Unit) : sProp 𝕄 := iprop(∃ W, owes (c : Thread nD τ) O W)

/-! ## The signals -/

def sigIn (c p : Dev nD) : sProp 𝕄 := if p = c then iprop(emp) else iprop(dutyTok ER (barCell p) 0 c ∗ slotAny c p)

theorem signal_step {c p : Dev nD} {cond : BitVec 1} (dev : cond = 1#1 → Dev nD) (hc : cond = 1#1 ↔ p ≠ c)
    (hd : ∀ h, dev h = p) (b : CellTallies nD τ sig Unit) (l : List (Dev nD))
    {α : Type} {R : Prog (TpuEff nD τ sig (Elt F) Λ₀ .tc) α} {Q : α → sProp 𝕄} :
    iprop(recs m ρ K ∗ owesE c (owedSigs c b (p :: l)) ∗ sigIn c p)
      ⊢ iprop((owesE c (owedSigs c b l) -∗ runs c R Q)
        -∗ runs c (dite (cond = 1#1) (fun h => semSignalWord (dev h) barS 1#32 >>= fun _ => R) (fun _ => R)) Q) := by
  by_cases h : p = c
  · rw [dif_neg (fun h' => hc.mp h' h)]
    unfold sigIn
    rw [owedSigs_cons]
    rw [if_pos h, if_pos h, add_zero]
    iintro ⟨-, HO, -⟩ Hk
    iapply Hk; iexact HO
  · rw [dif_pos (hc.mpr h), hd]
    unfold sigIn owesE
    rw [owedSigs_cons]
    rw [if_neg h, if_neg h]
    simp only [semSignalWord, Prog.bind_op, Prog.bind_ret]
    iintro ⟨#HR, ⟨%W, HO⟩, Ht, Hs⟩ Hk
    iapply (Rounds.wp_signal 𝒱₀ ER (pagedRd m ρ) (c : Thread nD τ) none (dst := (p : Thread nD τ)) (κ := K (p, .inl ()))
        (d := c) (by rw [duties_bar]; exact Finset.mem_erase.mpr ⟨fun e => h e.symm, Finset.mem_univ _⟩)
        ((amount_bar m ρ p c).trans (by decide)) () (owedSigs c b l) rfl) $$ [HO Ht Hs]
    · isplitr; · iapply (recs_inv m ρ K (p, .inl ())); iexact HR
      isplitl [HO]; · iexact HO
      isplitl [Ht]; · iexact Ht
      isplitl [Hs]; · rw [payload_bar]; iexact Hs
      iapply (recs_reached m ρ K (p, .inl ())); iexact HR
    iintro HO
    iapply Hk; iexists W; iexact HO

/-- The wait for the seven signals: every peer's slot for `c` comes with them. -/
theorem barrier_step {c : Dev nD} {α : Type} {R : Prog (TpuEff nD τ sig (Elt F) Λ₀ .tc) α} {Q : α → sProp 𝕄} :
    iprop(recs m ρ K ∗ owesE c (O₁ c) ∗ cred (tallyAt (barCell c) () 7) ∗ atPos ER (barCell c) 0 ∅ 0 ∗ levAts L lv)
      ⊢ iprop(((owesE c (O₁ c) ∗ semVal (barCell c) 0 ∗ bigSep (Finset.univ.erase c) (fun p => slotAny (F := F) p c)) -∗ runs c R Q)
        -∗ runs c (semWaitWord barS 7#32 >>= fun _ => R) Q) := by
  simp only [semWaitWord, Prog.bind_op, Prog.bind_ret]
  unfold owesE
  iintro ⟨#HR, ⟨%W, HO⟩, Hc, Hat, #Hlev⟩ Hk
  iapply (Rounds.wp_wait_rest_token 𝒱₀ ER (pagedRd m ρ) (c : Thread nD τ) none (κ := K (c, .inl ()))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (recs_inv m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (pagedRd m ρ) (Set.mem_univ (K (c, .inl ()))) (fun h => h) (R := 0 + 1) (duties_later m ρ (barCell c))) $$ [Hat] with Hz
  · isplitr; · iapply (recs_inv m ρ K (c, .inl ())); iexact HR
    iexact Hat
  iapply Hk
  isplitl [HO]; · iexists _; iexact HO
  isplitl [Hz]; · iexact Hz
  iexact Hp

/-! ## The copies -/

/-- Share `p` of eight of device `c`'s partial buffer at contents `f`. -/
def partLeaf (c p : Dev nD) (f : PartBuf F) : sProp 𝕄 :=
  iprop(pM.view.loc (c : Thread nD τ) ↦[pM.view.set]{ShareLeaves.leaf 3 fullShare p} f)

def sndIn (c p : Dev nD) (f : PartBuf F) : sProp 𝕄 :=
  if p = c then iprop(emp)
  else iprop(dutyTok ER (sendCell c p) 0 0 ∗ dutyTok ER (recvCell p c) 0 0 ∗ slotAny p c ∗ partLeaf c p (partW m ρ c f))
def sndOut (c p : Dev nD) : sProp 𝕄 := if p = c then iprop(emp) else iprop(cred (tallyAt (sendCell c p) () N))

/-- The copy to a peer `d = p`. -/
theorem send_core {c p d : Dev nD} (h : p ≠ c) (hd : d = p)
    {inS : ∀ a, (![c.val] : Fin 1 → Nat) a + S1.size a ≤ S8.size a} {inB : ∀ a, (![c.val, 0, 0, 0] : Fin 4 → Nat) a + S1x8x8x128.size a ≤ S8x8x8x128.size a}
    {inP : ∀ a, (![p.val] : Fin 1 → Nat) a + S1.size a ≤ S8.size a}
    {hst : ∀ a, (Rect.unit (s := S8x8x8x128) ![c.val, 0, 0, 0] S1x8x8x128.size inB).stride a = 1}
    {hsrc : (pM : Memref sig .tc .vmem S8x8x128 .f32).view.WordExact}
    {hdst : ((bM.slice (Rect.unit (s := S8x8x8x128) ![c.val, 0, 0, 0] S1x8x8x128.size inB) hst).squeeze S8x8x128 squeezes_S1x8x8x128_S8x8x128).view.WordExact}
    {hsc : ((bM.slice (Rect.unit (s := S8x8x8x128) ![c.val, 0, 0, 0] S1x8x8x128.size inB) hst).squeeze S8x8x128 squeezes_S1x8x8x128_S8x8x128).view.ref.isScScratch = false}
    {hsem : DmaTarget.Typed .vmem
      (.dma ((cc0_scratch3.slice (Rect.unit (s := S8) ![c.val] S1.size inS)).squeeze S_ squeezes_S1_S_).sem)
      (.remote (Dev.tc d : Thread nD τ)
        ((bM.slice (Rect.unit (s := S8x8x8x128) ![c.val, 0, 0, 0] S1x8x8x128.size inB) hst).squeeze S8x8x128 squeezes_S1x8x8x128_S8x8x128)
        (.dma ((cc0_scratch2.slice (Rect.unit (s := S8) ![p.val] S1.size inP)).squeeze S_ squeezes_S1_S_).sem) hsc)}
    (f : PartBuf F) (l : List (Dev nD))
    {α : Type} {R : Prog (TpuEff nD τ sig (Elt F) Λ₀ .tc) α} {Q : α → sProp 𝕄} :
    iprop(recs m ρ K ∗ owesE c (owedSends c (p :: l)) ∗ sndIn m ρ c p f)
      ⊢ iprop(((owesE c (owedSends c l) ∗ sndOut c p) -∗ runs c R Q)
        -∗ runs c (Prog.lift (.enqueueDma pM (.remote (Dev.tc d : Thread nD τ)
            ((bM.slice (Rect.unit (s := S8x8x8x128) ![c.val, 0, 0, 0] S1x8x8x128.size inB) hst).squeeze S8x8x128 squeezes_S1x8x8x128_S8x8x128)
            (.dma ((cc0_scratch2.slice (Rect.unit (s := S8) ![p.val] S1.size inP)).squeeze S_ squeezes_S1_S_).sem) hsc)
          (.dma ((cc0_scratch3.slice (Rect.unit (s := S8) ![c.val] S1.size inS)).squeeze S_ squeezes_S1_S_).sem) hsrc hdst hsem)
          >>= fun _ => R) Q) := by
  subst hd
  unfold sndIn sndOut owesE
  rw [owedSends_cons, if_neg h, if_neg h, if_neg h]
  simp only [Prog.lift, Prog.bind_op, Prog.bind_ret]
  unfold slotAny partLeaf
  iintro ⟨#HR, ⟨%W, HO⟩, HtS, HtV, ⟨%g, Hs⟩, Hp⟩ Hk
  iapply (Rounds.wp_send_pointsTo 𝒱₀ ER (pagedRd m ρ) (c : Thread nD τ) none (κ₁ := K (c, .inr (.inl d))) (κ₂ := K (d, .inr (.inr c)))
    (r₁ := 0) (r₂ := 0) (d₁ := 0) (d₂ := 0) (fd := g) (sS := .dma (sendS d)) (sem := .dma (recvS c))
    (by rw [duties_send m ρ h]; exact Finset.mem_singleton_self _)
    (by rw [duties_recv m ρ (fun e => h e.symm)]; exact Finset.mem_singleton_self _)
    () () N rfl (amount_send m ρ c d 0) (amount_recv m ρ d c 0) (owedSends c l) rfl (W := W)
    (by rw [payload_send]; unfold partShare; iintro H; iexists f; iexact H)
    (by
      rw [payload_recv]; unfold slotGot Shows
      iintro H
      iexists f
      iexists ((slotM c).view.write (Elt F) g (pM.view.read (Elt F) (partW m ρ c f)) Finset.univ)
      isplitr
      · ipureintro
        refine (View.read_write_univ (v := (slotM c).view) g (pM.view.read (Elt F) (partW m ρ c f))).trans ?_
        show pM.view.read (Elt F) (partW m ρ c f) = _
        exact View.read_whole cc0_scratch0 _
      iexact H)) $$ [HO HtS HtV Hs Hp]
  · isplitr; · iapply (recs_inv m ρ K (c, .inr (.inl d))); iexact HR
    isplitr; · iapply (recs_inv m ρ K (d, .inr (.inr c))); iexact HR
    isplitl [Hp]; · iexact Hp
    isplitl [Hs]; · iexact Hs
    isplitl [HO]; · iexact HO
    isplitl [HtS]; · iexact HtS
    isplitr; · iapply (recs_reached m ρ K (c, .inr (.inl d))); iexact HR
    isplitl [HtV]; · iexact HtV
    iapply (recs_reached m ρ K (d, .inr (.inr c))); iexact HR
  iintro ⟨Hc, HO⟩
  iapply Hk
  isplitl [HO]; · iexists W; iexact HO
  iexact Hc

theorem send_step {c p : Dev nD} {cond : BitVec 1} (dev : cond = 1#1 → Dev nD) (hc : cond = 1#1 ↔ p ≠ c)
    (hd : ∀ h, dev h = p) {offS : Fin 1 → Nat} {off : Fin 4 → Nat} (hoS : offS = ![c.val]) (ho : off = ![c.val, 0, 0, 0])
    {inS : cond = 1#1 → ∀ a, offS a + S1.size a ≤ S8.size a} {inB : cond = 1#1 → ∀ a, off a + S1x8x8x128.size a ≤ S8x8x8x128.size a}
    {offP : Fin 1 → Nat} (hoP : offP = ![p.val]) {inP : ∀ a, offP a + S1.size a ≤ S8.size a}
    {hst : ∀ (h : cond = 1#1) (a), (Rect.unit (s := S8x8x8x128) off S1x8x8x128.size (inB h)).stride a = 1}
    {hsrc : (pM : Memref sig .tc .vmem S8x8x128 .f32).view.WordExact}
    {hdst : ∀ h : cond = 1#1, ((bM.slice (Rect.unit (s := S8x8x8x128) off S1x8x8x128.size (inB h)) (hst h)).squeeze S8x8x128 squeezes_S1x8x8x128_S8x8x128).view.WordExact}
    {hsc : ∀ h : cond = 1#1, ((bM.slice (Rect.unit (s := S8x8x8x128) off S1x8x8x128.size (inB h)) (hst h)).squeeze S8x8x128 squeezes_S1x8x8x128_S8x8x128).view.ref.isScScratch = false}
    {hsem : ∀ h : cond = 1#1, DmaTarget.Typed .vmem
      (.dma ((cc0_scratch3.slice (Rect.unit (s := S8) offS S1.size (inS h))).squeeze S_ squeezes_S1_S_).sem)
      (.remote (Dev.tc (dev h) : Thread nD τ)
        ((bM.slice (Rect.unit (s := S8x8x8x128) off S1x8x8x128.size (inB h)) (hst h)).squeeze S8x8x128 squeezes_S1x8x8x128_S8x8x128)
        (.dma ((cc0_scratch2.slice (Rect.unit (s := S8) offP S1.size inP)).squeeze S_ squeezes_S1_S_).sem) (hsc h))}
    (f : PartBuf F) (l : List (Dev nD))
    {α : Type} {R : Prog (TpuEff nD τ sig (Elt F) Λ₀ .tc) α} {Q : α → sProp 𝕄} :
    iprop(recs m ρ K ∗ owesE c (owedSends c (p :: l)) ∗ sndIn m ρ c p f)
      ⊢ iprop(((owesE c (owedSends c l) ∗ sndOut c p) -∗ runs c R Q)
        -∗ runs c (dite (cond = 1#1) (fun h => Prog.lift (.enqueueDma pM (.remote (Dev.tc (dev h) : Thread nD τ)
            ((bM.slice (Rect.unit (s := S8x8x8x128) off S1x8x8x128.size (inB h)) (hst h)).squeeze S8x8x128 squeezes_S1x8x8x128_S8x8x128)
            (.dma ((cc0_scratch2.slice (Rect.unit (s := S8) offP S1.size inP)).squeeze S_ squeezes_S1_S_).sem) (hsc h))
          (.dma ((cc0_scratch3.slice (Rect.unit (s := S8) offS S1.size (inS h))).squeeze S_ squeezes_S1_S_).sem) hsrc (hdst h) (hsem h))
          >>= fun _ => R) (fun _ => R)) Q) := by
  subst hoS ho hoP
  by_cases h : p = c
  · rw [dif_neg (fun h' => hc.mp h' h)]
    unfold sndIn sndOut
    rw [owedSends_cons]
    rw [if_pos h, if_pos h, if_pos h, add_zero]
    iintro ⟨-, HO, -⟩ Hk
    iapply Hk
    isplitl [HO]; · iexact HO
    iempintro
  · rw [dif_pos (hc.mpr h)]
    exact send_core m ρ K h (hd (hc.mpr h)) f l

/-! ## The waits for the copies of the peers -/

def rcvIn (c p : Dev nD) : sProp 𝕄 :=
  iprop(atPos ER (recvCell c p) 0 ∅ 0 ∗ if p = c then slotAny c p else iprop(cred (tallyAt (recvCell c p) () N)))
/-- Slot `p` of device `c`, holding the partial result of `p` unless it is `c`'s own slot. -/
def slotHas (c p : Dev nD) : sProp 𝕄 :=
  iprop(∃ (f : PartBuf F) (g : Buf (Elt F) ((slotM p).view.loc (c : Thread nD τ))),
    ⌜p ≠ c → Shows m ρ p f g⌝ ∗ ((slotM p).view.loc (c : Thread nD τ) ↦[(slotM p).view.set]{fullShare} g))
def rcvOut (c p : Dev nD) : sProp 𝕄 := iprop(semVal (recvCell c p) 0 ∗ slotHas m ρ c p)

theorem recv_core {c p : Dev nD} {cond : BitVec 1} (hc : cond = 1#1 ↔ p ≠ c)
    {offP : Fin 1 → Nat} (hoP : offP = ![p.val]) {inP : ∀ a, offP a + S1.size a ≤ S8.size a}
    {sp sp' : Space} {s' : Shape} {e' : EltTy} {src : Memref sig .tc sp' s' e'} {dst : Memref sig .tc sp S8x8x128 .f32}
    {hsrc : src.view.WordExact} {hdst : dst.view.WordExact} (hN : dst.view.dmaCredit = N)
    {α : Type} {R : Prog (TpuEff nD τ sig (Elt F) Λ₀ .tc) α} {Q : α → sProp 𝕄} :
    iprop(recs m ρ K ∗ owesE c 0 ∗ rcvIn c p)
      ⊢ iprop(((owesE c 0 ∗ rcvOut m ρ c p) -∗ runs c R Q)
        -∗ runs c (dite (cond = 1#1) (fun _ => Prog.lift (.waitDma2
            ((cc0_scratch3.slice (Rect.unit (s := S8) offP S1.size inP)).squeeze S_ squeezes_S1_S_).sem src dst hsrc hdst)
          >>= fun _ => R) (fun _ => R)) Q) := by
  subst hoP
  by_cases h : p = c
  · rw [dif_neg (fun h' => hc.mp h' h)]
    unfold rcvIn rcvOut slotHas
    rw [if_pos h]
    unfold slotAny
    iintro ⟨#HR, HO, Hat, ⟨%g, Hs⟩⟩ Hk
    imod (Rounds.cell_close ER (pagedRd m ρ) (Set.mem_univ (K (c, .inr (.inr p)))) (fun h => h) (R := 0)
      (g := recvCell c p) (fun r _ => by rw [h]; exact duties_recv_self m ρ c r)) $$ [Hat] with Hz
    · isplitr; · iapply (recs_inv m ρ K (c, .inr (.inr p))); iexact HR
      iexact Hat
    iapply Hk
    isplitl [HO]; · iexact HO
    isplitl [Hz]; · iexact Hz
    iexists (fun _ => Scalar.ofBits .f32 0#32); iexists g
    isplitr; · ipureintro; exact fun h' => absurd h h'
    iexact Hs
  · rw [dif_pos (hc.mpr h)]
    unfold rcvIn rcvOut slotHas owesE
    rw [if_neg h]
    simp only [Prog.lift, Prog.bind_op, Prog.bind_ret]
    iintro ⟨#HR, ⟨%W, HO⟩, Hat, Hc⟩ Hk
    iapply (Rounds.wp_wait_rest_token 𝒱₀ ER (pagedRd m ρ) (c : Thread nD τ) none (κ := K (c, .inr (.inr p)))
      (sm := .dma (recvS p)) (k' := N)
      (fun K => (wpE_waitDma2_eq 𝒱₀ (c : Thread nD τ) none Set.univ K).trans (by rw [hN]; rfl)) (Set.mem_univ _) () (O := 0) (W := W) (R := 0) (m := 0) (T := ∅)
      (by rw [Nat.zero_add, expect_recv m ρ h])) $$ [Hc HO Hat]
    · isplitr; · iapply (recs_inv m ρ K (c, .inr (.inr p))); iexact HR
      isplitl [Hc]; · iexact Hc
      isplitl [HO]; · iexact HO
      isplitr; · rw [MayWait_zero]; iempintro
      iexact Hat
    iintro ⟨HO, Hat, -, Hpay⟩
    ihave Hp := (Entails.of_eq (rest_recv m ρ h)) $$ Hpay
    imod (Rounds.cell_close ER (pagedRd m ρ) (Set.mem_univ (K (c, .inr (.inr p)))) (fun h => h) (R := 0 + 1)
      (duties_later m ρ (recvCell c p))) $$ [Hat] with Hz
    · isplitr; · iapply (recs_inv m ρ K (c, .inr (.inr p))); iexact HR
      iexact Hat
    iapply Hk
    isplitl [HO]; · iexists _; iexact HO
    isplitl [Hz]; · iexact Hz
    unfold slotGot
    icases Hp with ⟨%f, %g, %hg, Hs⟩
    iexists f; iexists g
    isplitr; · ipureintro; exact fun _ => hg
    iexact Hs

/-- `recv_core` at a slot of the landing buffer. -/
theorem recv_step {c p : Dev nD} {cond : BitVec 1} (hc : cond = 1#1 ↔ p ≠ c)
    {offP : Fin 1 → Nat} (hoP : offP = ![p.val]) {inP : ∀ a, offP a + S1.size a ≤ S8.size a}
    {off : Fin 4 → Nat} {inD : ∀ a, off a + S1x8x8x128.size a ≤ S8x8x8x128.size a}
    {hst : ∀ a, (Rect.unit (s := S8x8x8x128) off S1x8x8x128.size inD).stride a = 1}
    {hsrc : (pM : Memref sig .tc .vmem S8x8x128 .f32).view.WordExact}
    {hdst : ((bM.slice (Rect.unit (s := S8x8x8x128) off S1x8x8x128.size inD) hst).squeeze S8x8x128 squeezes_S1x8x8x128_S8x8x128).view.WordExact}
    {α : Type} {R : Prog (TpuEff nD τ sig (Elt F) Λ₀ .tc) α} {Q : α → sProp 𝕄} :
    iprop(recs m ρ K ∗ owesE c 0 ∗ rcvIn c p)
      ⊢ iprop(((owesE c 0 ∗ rcvOut m ρ c p) -∗ runs c R Q)
        -∗ runs c (dite (cond = 1#1) (fun _ => Prog.lift (.waitDma2
            ((cc0_scratch3.slice (Rect.unit (s := S8) offP S1.size inP)).squeeze S_ squeezes_S1_S_).sem pM
            ((bM.slice (Rect.unit (s := S8x8x8x128) off S1x8x8x128.size inD) hst).squeeze S8x8x128 squeezes_S1x8x8x128_S8x8x128) hsrc hdst)
          >>= fun _ => R) (fun _ => R)) Q) :=
  recv_core m ρ K hc hoP (dst := ((bM.slice (Rect.unit (s := S8x8x8x128) off S1x8x8x128.size inD) hst).squeeze S8x8x128 squeezes_S1x8x8x128_S8x8x128)) rfl

/-! ## The waits for the device's own copies -/

def ackIn (c p : Dev nD) : sProp 𝕄 :=
  iprop(atPos ER (sendCell c p) 0 ∅ 0 ∗ if p = c then partShare m ρ c p else iprop(cred (tallyAt (sendCell c p) () N)))
def ackOut (c p : Dev nD) : sProp 𝕄 := iprop(semVal (sendCell c p) 0 ∗ partShare m ρ c p)

theorem ack_core {c p : Dev nD} {cond : BitVec 1} (hc : cond = 1#1 ↔ p ≠ c)
    {offP : Fin 1 → Nat} (hoP : offP = ![p.val]) {inP : ∀ a, offP a + S1.size a ≤ S8.size a}
    {sp sp' : Space} {s' : Shape} {e' : EltTy} {src : cond = 1#1 → Memref sig .tc sp' s' e'} {dst : Memref sig .tc sp S8x8x128 .f32}
    {hsrc : ∀ h, (src h).view.WordExact} {hdst : dst.view.WordExact} (hN : dst.view.dmaCredit = N)
    {α : Type} {R : Prog (TpuEff nD τ sig (Elt F) Λ₀ .tc) α} {Q : α → sProp 𝕄} :
    iprop(recs m ρ K ∗ owesE c 0 ∗ ackIn m ρ c p)
      ⊢ iprop(((owesE c 0 ∗ ackOut m ρ c p) -∗ runs c R Q)
        -∗ runs c (dite (cond = 1#1) (fun h => Prog.lift (.waitDma2
            ((cc0_scratch2.slice (Rect.unit (s := S8) offP S1.size inP)).squeeze S_ squeezes_S1_S_).sem (src h) dst (hsrc h) hdst)
          >>= fun _ => R) (fun _ => R)) Q) := by
  subst hoP
  by_cases h : p = c
  · rw [dif_neg (fun h' => hc.mp h' h)]
    unfold ackIn ackOut
    rw [if_pos h]
    iintro ⟨#HR, HO, Hat, Hs⟩ Hk
    imod (Rounds.cell_close ER (pagedRd m ρ) (Set.mem_univ (K (c, .inr (.inl p)))) (fun h => h) (R := 0)
      (g := sendCell c p) (fun r _ => by rw [h]; exact duties_send_self m ρ c r)) $$ [Hat] with Hz
    · isplitr; · iapply (recs_inv m ρ K (c, .inr (.inl p))); iexact HR
      iexact Hat
    iapply Hk
    isplitl [HO]; · iexact HO
    isplitl [Hz]; · iexact Hz
    iexact Hs
  · rw [dif_pos (hc.mpr h)]
    unfold ackIn ackOut owesE
    rw [if_neg h]
    simp only [Prog.lift, Prog.bind_op, Prog.bind_ret]
    iintro ⟨#HR, ⟨%W, HO⟩, Hat, Hc⟩ Hk
    iapply (Rounds.wp_wait_rest_token 𝒱₀ ER (pagedRd m ρ) (c : Thread nD τ) none (κ := K (c, .inr (.inl p)))
      (sm := .dma (sendS p)) (k' := N)
      (fun K => (wpE_waitDma2_eq 𝒱₀ (c : Thread nD τ) none Set.univ K).trans (by rw [hN]; rfl)) (Set.mem_univ _) () (O := 0) (W := W) (R := 0) (m := 0) (T := ∅)
      (by rw [Nat.zero_add, expect_send m ρ h])) $$ [Hc HO Hat]
    · isplitr; · iapply (recs_inv m ρ K (c, .inr (.inl p))); iexact HR
      isplitl [Hc]; · iexact Hc
      isplitl [HO]; · iexact HO
      isplitr; · rw [MayWait_zero]; iempintro
      iexact Hat
    iintro ⟨HO, Hat, -, Hpay⟩
    ihave Hp := (Entails.of_eq (rest_send m ρ h)) $$ Hpay
    imod (Rounds.cell_close ER (pagedRd m ρ) (Set.mem_univ (K (c, .inr (.inl p)))) (fun h => h) (R := 0 + 1)
      (duties_later m ρ (sendCell c p))) $$ [Hat] with Hz
    · isplitr; · iapply (recs_inv m ρ K (c, .inr (.inl p))); iexact HR
      iexact Hat
    iapply Hk
    isplitl [HO]; · iexists _; iexact HO
    isplitl [Hz]; · iexact Hz
    iexact Hp

/-- `ack_core` at a slot of the landing buffer. -/
theorem ack_step {c p : Dev nD} {cond : BitVec 1} (hc : cond = 1#1 ↔ p ≠ c)
    {offP : Fin 1 → Nat} (hoP : offP = ![p.val]) {inP : ∀ a, offP a + S1.size a ≤ S8.size a}
    {off : Fin 4 → Nat} {inB : cond = 1#1 → ∀ a, off a + S1x8x8x128.size a ≤ S8x8x8x128.size a}
    {hst : ∀ (h : cond = 1#1) (a), (Rect.unit (s := S8x8x8x128) off S1x8x8x128.size (inB h)).stride a = 1}
    {hsrc : ∀ h : cond = 1#1, ((bM.slice (Rect.unit (s := S8x8x8x128) off S1x8x8x128.size (inB h)) (hst h)).squeeze S8x8x128 squeezes_S1x8x8x128_S8x8x128).view.WordExact}
    {hdst : (pM : Memref sig .tc .vmem S8x8x128 .f32).view.WordExact}
    {α : Type} {R : Prog (TpuEff nD τ sig (Elt F) Λ₀ .tc) α} {Q : α → sProp 𝕄} :
    iprop(recs m ρ K ∗ owesE c 0 ∗ ackIn m ρ c p)
      ⊢ iprop(((owesE c 0 ∗ ackOut m ρ c p) -∗ runs c R Q)
        -∗ runs c (dite (cond = 1#1) (fun h => Prog.lift (.waitDma2
            ((cc0_scratch2.slice (Rect.unit (s := S8) offP S1.size inP)).squeeze S_ squeezes_S1_S_).sem
            ((bM.slice (Rect.unit (s := S8x8x8x128) off S1x8x8x128.size (inB h)) (hst h)).squeeze S8x8x128 squeezes_S1x8x8x128_S8x8x128) pM (hsrc h) hdst)
          >>= fun _ => R) (fun _ => R)) Q) :=
  ack_core m ρ K hc hoP (src := fun h => ((bM.slice (Rect.unit (s := S8x8x8x128) off S1x8x8x128.size (inB h)) (hst h)).squeeze S8x8x128 squeezes_S1x8x8x128_S8x8x128)) (dst := pM) rfl

end Cert.PagedProof

end
-- ==== Proof.Begin.lean ====
/-
# The first two parts of the body: the signals, the barrier, the loads of the operands
-/
module

public import proofs.«01_k».proof.Proof.Steps

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-- One assertion for each device, in order. -/
def all8 (Φ : Dev nD → sProp 𝕄) : sProp 𝕄 := iprop(Φ 0 ∗ Φ 1 ∗ Φ 2 ∗ Φ 3 ∗ Φ 4 ∗ Φ 5 ∗ Φ 6 ∗ Φ 7)

theorem all8_eq (Φ : Dev nD → sProp 𝕄) : bigSep Finset.univ Φ = all8 Φ :=
  bigSep_univ_eq_bigSepL devs (by decide) (by decide) Φ

theorem deviceId_step {c : Dev nD} {α : Type} {k : Dev nD → Prog (TpuEff nD τ sig (Elt F) Λ₀ .tc) α} {Q : α → sProp 𝕄} :
    runs c (k c) Q ⊢ runs c (Prog.lift .deviceId >>= k) Q := by
  simp only [Prog.lift, Prog.bind_op, Prog.bind_ret, wp_deviceId]
  exact BI.Entails.refl _

def part1 : Prog (TpuEff nD τ sig (Elt F) Λ₀ .tc) (Σ' (d0 : Dev nD), BitVec 32) :=
  k0_part1 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3

set_option maxRecDepth 20000 in
set_option maxHeartbeats 2000000 in
theorem part1_wp (c : Dev nD) (Q : (Σ' (d0 : Dev nD), BitVec 32) → sProp 𝕄) :
    iprop(recs m ρ K ∗ owesE c (O₀ c) ∗ all8 (sigIn c) ∗ cred (tallyAt (barCell c) () 7) ∗ atPos ER (barCell c) 0 ∅ 0 ∗ levAts L lv)
      ⊢ iprop(((owesE c (O₁ c) ∗ semVal (barCell c) 0 ∗ bigSep (Finset.univ.erase c) (fun p => slotAny (F := F) p c)) -∗ Q ⟨c, wordOf c⟩)
        -∗ runs c part1 Q) := by
  unfold part1
  rw [k0_part1_eq_skeleton]; unfold k0_part1_skel
  unfold all8 O₀
  iintro ⟨#HR, HO, ⟨H0, H1, H2, H3, H4, H5, H6, H7⟩, Hc, Hat, #Hlev⟩ Hk
  iapply deviceId_step
  iapply (signal_step m ρ K (p := 0) (fun h => (⟨k0_dev1, k0_dev1_lt c h⟩ : Dev nD)) (by revert c; decide) (fun _ => Fin.ext k0_dev1_eq) (O₁ c) [1, 2, 3, 4, 5, 6, 7]) $$ [HO H0]
  · isplitr; · iexact HR
    isplitl [HO]; · iexact HO
    iexact H0
  iintro HO
  iapply (signal_step m ρ K (p := 1) (fun h => (⟨k0_dev2, k0_dev2_lt c h⟩ : Dev nD)) (by revert c; decide) (fun _ => Fin.ext k0_dev2_eq) (O₁ c) [2, 3, 4, 5, 6, 7]) $$ [HO H1]
  · isplitr; · iexact HR
    isplitl [HO]; · iexact HO
    iexact H1
  iintro HO
  iapply (signal_step m ρ K (p := 2) (fun h => (⟨k0_dev3, k0_dev3_lt c h⟩ : Dev nD)) (by revert c; decide) (fun _ => Fin.ext k0_dev3_eq) (O₁ c) [3, 4, 5, 6, 7]) $$ [HO H2]
  · isplitr; · iexact HR
    isplitl [HO]; · iexact HO
    iexact H2
  iintro HO
  iapply (signal_step m ρ K (p := 3) (fun h => (⟨k0_dev4, k0_dev4_lt c h⟩ : Dev nD)) (by revert c; decide) (fun _ => Fin.ext k0_dev4_eq) (O₁ c) [4, 5, 6, 7]) $$ [HO H3]
  · isplitr; · iexact HR
    isplitl [HO]; · iexact HO
    iexact H3
  iintro HO
  iapply (signal_step m ρ K (p := 4) (fun h => (⟨k0_dev5, k0_dev5_lt c h⟩ : Dev nD)) (by revert c; decide) (fun _ => Fin.ext k0_dev5_eq) (O₁ c) [5, 6, 7]) $$ [HO H4]
  · isplitr; · iexact HR
    isplitl [HO]; · iexact HO
    iexact H4
  iintro HO
  iapply (signal_step m ρ K (p := 5) (fun h => (⟨k0_dev6, k0_dev6_lt c h⟩ : Dev nD)) (by revert c; decide) (fun _ => Fin.ext k0_dev6_eq) (O₁ c) [6, 7]) $$ [HO H5]
  · isplitr; · iexact HR
    isplitl [HO]; · iexact HO
    iexact H5
  iintro HO
  iapply (signal_step m ρ K (p := 6) (fun h => (⟨k0_dev7, k0_dev7_lt c h⟩ : Dev nD)) (by revert c; decide) (fun _ => Fin.ext k0_dev7_eq) (O₁ c) [7]) $$ [HO H6]
  · isplitr; · iexact HR
    isplitl [HO]; · iexact HO
    iexact H6
  iintro HO
  iapply (signal_step m ρ K (p := 7) (fun h => (⟨k0_dev8, k0_dev8_lt c h⟩ : Dev nD)) (by revert c; decide) (fun _ => Fin.ext k0_dev8_eq) (O₁ c) []) $$ [HO H7]
  · isplitr; · iexact HR
    isplitl [HO]; · iexact HO
    iexact H7
  iintro HO
  iapply (barrier_step m ρ K) $$ [HO Hc Hat]
  · isplitr; · iexact HR
    isplitl [HO]; · iexact HO
    isplitl [Hc]; · iexact Hc
    isplitl [Hat]; · iexact Hat
    iexact Hlev
  iintro H
  rw [runs, wp_pure]
  imodintro
  rw [show Scalar.remsi (Scalar.divsi (Dev.word c) 1#32) 8#32 = wordOf c from rfl]
  iapply Hk; iexact H

def part2 (w : BitVec 32) :=
  k0_part2 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 w

/-- Staging buffer `b` of device `c` at contents `X`. -/
abbrev stg (c : Dev nD) (b : Ref sig .tc) (X : b.ty.Contents (Elt F)) : sProp 𝕄 :=
  iprop(((c : Thread nD τ).loc b) ↦{fullShare} X)

omit [FloatOps F] in
theorem zero4 : (![0, 0, 0, 0] : Fin 4 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- A load from a buffer held whole. -/
theorem load_at {c : Dev nD} {sp : CoreSpace} {s : Shape} {e : EltTy} {m : Memref sig .tc sp s e} {r : Rect s} {hl : m.view.LoadsAt r.toLoadRect}
    {f : Buf (Elt F) (m.view.loc (c : Thread nD τ))} {v : r.shape.Idx → Elt F e} (hv : m.view.readAt (Elt F) r.toLoadRect f = v)
    {α : Type} {k : (r.shape.Idx → Elt F e) → Prog (TpuEff nD τ sig (Elt F) Λ₀ .tc) α} {Q : α → sProp 𝕄} :
    (m.view.loc (c : Thread nD τ) ↦{fullShare} f) ⊢ iprop(((m.view.loc (c : Thread nD τ) ↦{fullShare} f) -∗ runs c (k v) Q)
      -∗ runs c (Prog.lift (.load m r.toLoadRect hl) >>= k) Q) := by
  subst hv
  simp only [Prog.lift, Prog.bind_op, Prog.bind_ret]
  exact wp_load 𝒱₀ (c : Thread nD τ) none Set.univ (m := m) (Finset.subset_univ _)

set_option maxHeartbeats 800000 in
theorem part2_wp (c : Dev nD) (w : BitVec 32)
    (q : (cc0_stg0_0 : Ref sig .tc).ty.Contents (Elt F)) (k : (cc0_stg1_0 : Ref sig .tc).ty.Contents (Elt F))
    (v : (cc0_stg2_0 : Ref sig .tc).ty.Contents (Elt F)) (t : (cc0_stg3_0 : Ref sig .tc).ty.Contents (Elt F))
    (n : (cc0_stg4_0 : Ref sig .tc).ty.Contents (Elt F)) (Q : _ → sProp 𝕄) :
    iprop(stg c cc0_stg0_0 q ∗ stg c cc0_stg1_0 k ∗ stg c cc0_stg2_0 v ∗ stg c cc0_stg3_0 t ∗ stg c cc0_stg4_0 n)
      ⊢ iprop(((stg c cc0_stg0_0 q ∗ stg c cc0_stg1_0 k ∗ stg c cc0_stg2_0 v ∗ stg c cc0_stg3_0 t ∗ stg c cc0_stg4_0 n)
          -∗ Q ⟨k0_pay1 q, k0_pay2 k, k0_pay3 v, k0_pay4 w t n, k0_pay5 w t n, k0_pay6 w t n, k0_pay7 w t n⟩)
        -∗ runs c (part2 w) Q) := by
  unfold part2
  rw [k0_part2_eq_skeleton]; unfold k0_part2_skel
  iintro ⟨H0, H1, H2, H3, H4⟩ Hk
  iapply (load_at (m := Memref.whole cc0_stg0_0) (r := Rect.unit (s := S8x1x8x64) ![0, 0, 0, 0] S8x1x8x64.size inb_S8x1x8x64_S8x1x8x64_0_0_0_0) (v := q)
    (Memref.readAt_unit_zero (Elt F) cc0_stg0_0 zero4 _ q)) $$ H0; iintro H0
  iapply (load_at (m := Memref.whole cc0_stg1_0) (r := Rect.unit (s := S64x16x8x64) ![0, 0, 0, 0] S64x16x8x64.size inb_S64x16x8x64_S64x16x8x64_0_0_0_0) (v := k)
    (Memref.readAt_unit_zero (Elt F) cc0_stg1_0 zero4 _ k)) $$ H1; iintro H1
  iapply (load_at (m := Memref.whole cc0_stg2_0) (r := Rect.unit (s := S64x16x8x64) ![0, 0, 0, 0] S64x16x8x64.size inb_S64x16x8x64_S64x16x8x64_0_0_0_0) (v := v)
    (Memref.readAt_unit_zero (Elt F) cc0_stg2_0 zero4 _ v)) $$ H2; iintro H2
  iapply (load_at (m := Memref.whole cc0_stg3_0) (r := Rect.unit (s := S8x64) ![0, 0] S8x64.size inb_S8x64_S8x64_0_0) (v := t)
    (Memref.readAt_unit_zero (Elt F) cc0_stg3_0 zero2 _ t)) $$ H3; iintro H3
  iapply (load_at (m := Memref.whole cc0_stg4_0) (r := Rect.unit (s := S8) ![0] S8.size inb_S8_S8_0) (v := n)
    (Memref.readAt_unit_zero (Elt F) cc0_stg4_0 zero1 _ n)) $$ H4; iintro H4
  rw [runs, wp_pure]
  imodintro
  iapply Hk
  isplitl [H0]; · iexact H0
  isplitl [H1]; · iexact H1
  isplitl [H2]; · iexact H2
  isplitl [H3]; · iexact H3
  iexact H4

end Cert.PagedProof

end
-- ==== Proof.Heads.lean ====
/-
# The writes of the partial buffer: one lemma per part of the body

Each part computes with the operands of the earlier parts; the values handed from part to part are written
here as the earlier part returns them.
-/
module

public import proofs.«01_k».proof.Proof.Begin

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device `c`'s partial buffer, whole, at contents `f`. -/
abbrev partPts (c : Dev nD) (f : PartBuf F) : sProp 𝕄 := iprop(pM.view.loc (c : Thread nD τ) ↦{fullShare} f)

theorem load_step {c : Dev nD} {r : Rect S8x8x128} {hl : (pM : Memref sig .tc .vmem S8x8x128 .f32).view.LoadsAt r.toLoadRect} {f : PartBuf F}
    {α : Type} {k : (r.shape.Idx → Elt F .f32) → Prog (TpuEff nD τ sig (Elt F) Λ₀ .tc) α} {Q : α → sProp 𝕄} :
    partPts c f ⊢ iprop((partPts c f -∗ runs c (k (pM.view.readAt (Elt F) r.toLoadRect f)) Q)
      -∗ runs c (Prog.lift (.load pM r.toLoadRect hl) >>= k) Q) := by
  simp only [Prog.lift, Prog.bind_op, Prog.bind_ret]
  exact wp_load 𝒱₀ (c : Thread nD τ) none Set.univ (m := pM) (Finset.subset_univ _)

theorem store_step {c : Dev nD} {r : Rect S8x8x128} {w : FVec F r.shape .f32} {Mk : Finset r.shape.Idx} (hM : Mk = Finset.univ)
    {hx : ((pM : Memref sig .tc .vmem S8x8x128 .f32).access r).Stores Mk} {hm : Mk = Finset.univ ∨ ∀ a, r.stride a = 1} {f : PartBuf F}
    {α : Type} {k : PUnit → Prog (TpuEff nD τ sig (Elt F) Λ₀ .tc) α} {Q : α → sProp 𝕄} :
    partPts c f ⊢ iprop((partPts c (put r w f) -∗ runs c (k ⟨⟩) Q)
      -∗ runs c (Prog.lift (.store pM r w Mk hx hm) >>= k) Q) := by
  subst hM
  simp only [Prog.lift, Prog.bind_op, Prog.bind_ret]
  exact wp_store 𝒱₀ (c : Thread nD τ) none Set.univ (m := pM) (r := r) (Mk := Finset.univ) (Finset.subset_univ _)

set_option maxRecDepth 20000 in
set_option maxHeartbeats 1000000 in
theorem part12_wp (c : Dev nD) (q : FVec F S8x8x64 .bf16) (k v : FVec F S1024x8x64 .bf16) (cnt : FVec F S8x1024 .f32)
    (msk : IVec S8x1024 1) (f : PartBuf F) (Q : _ → sProp 𝕄) :
    partPts c f
      ⊢ iprop((partPts c (stepH 0 q k v cnt msk f) -∗ Q ⟨k0_pay85 q k msk, k0_pay86 q k msk⟩)
        -∗ runs c (k0_part12 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 q k v cnt msk (scH 0 q k)) Q) := by
  rw [k0_part12_eq_skeleton]; unfold k0_part12_skel
  iintro H Hk
  iapply load_step $$ H; iintro H
  iapply (store_step rfl) $$ H; iintro H
  iapply load_step $$ H; iintro H
  iapply (store_step rfl) $$ H; iintro H
  iapply load_step $$ H; iintro H
  iapply (store_step rfl) $$ H; iintro H
  rw [runs, wp_pure]
  imodintro
  iapply Hk
  iexact H

set_option maxRecDepth 20000 in
set_option maxHeartbeats 1000000 in
theorem part13_wp (c : Dev nD) (q : FVec F S8x8x64 .bf16) (k v : FVec F S1024x8x64 .bf16) (cnt : FVec F S8x1024 .f32)
    (msk : IVec S8x1024 1) (f : PartBuf F) (Q : _ → sProp 𝕄) :
    partPts c f
      ⊢ iprop((partPts c (stepH 1 q k v cnt msk f) -∗ Q ⟨k0_pay92 q k msk, k0_pay93 q k cnt msk, k0_pay94 q k cnt msk, k0_pay95 v⟩)
        -∗ runs c (k0_part13 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 q k v cnt msk (k0_pay85 q k msk) (k0_pay86 q k msk)) Q) := by
  rw [k0_part13_eq_skeleton]; unfold k0_part13_skel
  iintro H Hk
  iapply load_step $$ H; iintro H
  iapply (store_step rfl) $$ H; iintro H
  iapply load_step $$ H; iintro H
  iapply (store_step rfl) $$ H; iintro H
  iapply load_step $$ H; iintro H
  iapply (store_step rfl) $$ H; iintro H
  rw [runs, wp_pure]
  imodintro
  iapply Hk
  iexact H

set_option maxRecDepth 20000 in
set_option maxHeartbeats 1000000 in
theorem part14_wp (c : Dev nD) (q : FVec F S8x8x64 .bf16) (k v : FVec F S1024x8x64 .bf16) (cnt : FVec F S8x1024 .f32)
    (msk : IVec S8x1024 1) (f : PartBuf F) (Q : _ → sProp 𝕄) :
    partPts c f
      ⊢ iprop((partPts c (stepH 2 q k v cnt msk f) -∗ Q ⟨k0_pay100 q k msk, k0_pay102 q k cnt msk, k0_pay103 q k v cnt msk⟩)
        -∗ runs c (k0_part14 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 q k v cnt msk (k0_pay92 q k msk) (k0_pay93 q k cnt msk) (k0_pay94 q k cnt msk) (k0_pay95 v)) Q) := by
  rw [k0_part14_eq_skeleton]; unfold k0_part14_skel
  iintro H Hk
  iapply load_step $$ H; iintro H
  iapply (store_step rfl) $$ H; iintro H
  iapply load_step $$ H; iintro H
  iapply (store_step rfl) $$ H; iintro H
  iapply load_step $$ H; iintro H
  iapply (store_step rfl) $$ H; iintro H
  iapply load_step $$ H; iintro H
  rw [runs, wp_pure]
  imodintro
  iapply Hk
  iexact H

set_option maxRecDepth 20000 in
set_option maxHeartbeats 1000000 in
theorem part15_wp (c : Dev nD) (q : FVec F S8x8x64 .bf16) (k v : FVec F S1024x8x64 .bf16) (cnt : FVec F S8x1024 .f32)
    (msk : IVec S8x1024 1) (f : PartBuf F) (Q : _ → sProp 𝕄) :
    partPts c f
      ⊢ iprop((partPts c (put (rM 4) (shapeCast S8x1x1 (mH msk (scH 4 q k)) shapeCasts_S8x1_S8x1x1) (put (rO 4) (shapeCast S8x1x64 (oH 4 v (eH cnt msk (scH 4 q k))) shapeCasts_S8x64_S8x1x64) (stepH 3 q k v cnt msk f))) -∗ Q (k0_pay109 q k cnt msk))
        -∗ runs c (k0_part15 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 q k v cnt msk (k0_pay100 q k msk) (k0_pay102 q k cnt msk) (k0_pay103 q k v cnt msk)) Q) := by
  rw [k0_part15_eq_skeleton]; unfold k0_part15_skel
  iintro H Hk
  iapply (store_step rfl) $$ H; iintro H
  iapply load_step $$ H; iintro H
  iapply (store_step rfl) $$ H; iintro H
  iapply load_step $$ H; iintro H
  iapply (store_step rfl) $$ H; iintro H
  iapply load_step $$ H; iintro H
  iapply (store_step rfl) $$ H; iintro H
  iapply load_step $$ H; iintro H
  iapply (store_step rfl) $$ H; iintro H
  rw [runs, wp_pure]
  imodintro
  iapply Hk
  iexact H

set_option maxRecDepth 20000 in
set_option maxHeartbeats 1000000 in
theorem part16_wp (c : Dev nD) (q : FVec F S8x8x64 .bf16) (k v : FVec F S1024x8x64 .bf16) (cnt : FVec F S8x1024 .f32)
    (msk : IVec S8x1024 1) (f : PartBuf F) (Q : _ → sProp 𝕄) :
    partPts c f
      ⊢ iprop((partPts c (stepH 5 q k v cnt msk (put (rL 4) (shapeCast S8x1x1 (lH (eH cnt msk (scH 4 q k))) shapeCasts_S8x1_S8x1x1) f)) -∗ Q ⟨k0_pay119 q, k0_pay120 k⟩)
        -∗ runs c (k0_part16 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 q k v cnt msk (k0_pay109 q k cnt msk)) Q) := by
  rw [k0_part16_eq_skeleton]; unfold k0_part16_skel
  iintro H Hk
  iapply load_step $$ H; iintro H
  iapply (store_step rfl) $$ H; iintro H
  iapply load_step $$ H; iintro H
  iapply (store_step rfl) $$ H; iintro H
  iapply load_step $$ H; iintro H
  iapply (store_step rfl) $$ H; iintro H
  iapply load_step $$ H; iintro H
  iapply (store_step rfl) $$ H; iintro H
  rw [runs, wp_pure]
  imodintro
  iapply Hk
  iexact H

set_option maxRecDepth 20000 in
set_option maxHeartbeats 1000000 in
theorem part17_wp (c : Dev nD) (q : FVec F S8x8x64 .bf16) (k v : FVec F S1024x8x64 .bf16) (cnt : FVec F S8x1024 .f32)
    (msk : IVec S8x1024 1) (f : PartBuf F) (Q : _ → sProp 𝕄) :
    partPts c f
      ⊢ iprop((partPts c (stepH 6 q k v cnt msk f) -∗ Q ⟨k0_pay127 q k, k0_pay128 q k msk⟩)
        -∗ runs c (k0_part17 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 q k v cnt msk (k0_pay119 q) (k0_pay120 k)) Q) := by
  rw [k0_part17_eq_skeleton]; unfold k0_part17_skel
  iintro H Hk
  iapply load_step $$ H; iintro H
  iapply (store_step rfl) $$ H; iintro H
  iapply load_step $$ H; iintro H
  iapply (store_step rfl) $$ H; iintro H
  iapply load_step $$ H; iintro H
  iapply (store_step rfl) $$ H; iintro H
  rw [runs, wp_pure]
  imodintro
  iapply Hk
  iexact H

end Cert.PagedProof

end
-- ==== Proof.Exchange.lean ====
/-
# The exchange: the copies to the peers and the waits for the copies of the peers

Parts 18 to 20 of the body: the last head's writes, the seven copies, the seven waits, and the first loads of
the combination.
-/
module

public import proofs.«01_k».proof.Proof.Heads

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The shares of the partial buffer -/

/-- What device `c` needs for the copy to `p`, beside its share of the partial buffer. -/
def sndRes (c p : Dev nD) : sProp 𝕄 :=
  if p = c then iprop(emp) else iprop(dutyTok ER (sendCell c p) 0 0 ∗ dutyTok ER (recvCell p c) 0 0 ∗ slotAny p c)
/-- The share device `c` keeps: the one named by itself. -/
def keepLeaf (c : Dev nD) (f : PartBuf F) (p : Dev nD) : sProp 𝕄 := if p = c then partLeaf c p (partW m ρ c f) else iprop(emp)

theorem snd_intro (c p : Dev nD) (f : PartBuf F) :
    iprop(sndRes c p ∗ partLeaf c p (partW m ρ c f)) ⊢ iprop(sndIn m ρ c p f ∗ keepLeaf m ρ c f p) := by
  unfold sndRes sndIn keepLeaf
  by_cases h : p = c
  · rw [if_pos h, if_pos h, if_pos h]
  · rw [if_neg h, if_neg h, if_neg h]
    iintro ⟨⟨H1, H2, H3⟩, H4⟩
    isplitl
    · isplitl [H1]; · iexact H1
      isplitl [H2]; · iexact H2
      isplitl [H3]; · iexact H3
      iexact H4
    · iempintro

theorem all8_sep (Φ Ψ : Dev nD → sProp 𝕄) : all8 (fun p => iprop(Φ p ∗ Ψ p)) = iprop(all8 Φ ∗ all8 Ψ) := by
  rw [← all8_eq, ← all8_eq, ← all8_eq, bigSep_sep']
theorem all8_mono {Φ Ψ : Dev nD → sProp 𝕄} (h : ∀ p, Φ p ⊢ Ψ p) : all8 Φ ⊢ all8 Ψ := by
  rw [← all8_eq, ← all8_eq]; exact bigSep_mono fun p _ => h p

theorem part_split (c : Dev nD) (f : PartBuf F) : partPts c f = all8 (fun p => partLeaf c p f) := by
  rw [← all8_eq]
  unfold partLeaf
  rw [show (pM : Memref sig .tc .vmem S8x8x128 .f32).view.set = Finset.univ from View.set_whole _]
  exact ShareLeaves.pointsTo_leaves (ℓ := pM.view.loc (c : Thread nD τ)) Finset.univ f 3 fullShare

theorem snd_intro_all (c : Dev nD) (f : PartBuf F) :
    iprop(all8 (sndRes c) ∗ partPts c (partW m ρ c f)) ⊢ iprop(all8 (fun p => sndIn m ρ c p f) ∗ all8 (keepLeaf m ρ c f)) := by
  rw [part_split, ← all8_sep, ← all8_sep]
  exact all8_mono fun p => snd_intro m ρ c p f

theorem keep_eq (c : Dev nD) (f : PartBuf F) : all8 (keepLeaf m ρ c f) = partLeaf c c (partW m ρ c f) := by
  rw [← all8_eq, bigSep_univ_at _ c, bigSep_congr (s := Finset.univ.erase c) (Ψ := fun _ => iprop(emp))
    (fun p hp => by unfold keepLeaf; rw [if_neg (Finset.ne_of_mem_erase hp)])]
  unfold keepLeaf
  rw [if_pos rfl]
  have h1 : iprop(partLeaf c c (partW m ρ c f) ∗ bigSep (Finset.univ.erase c) (fun _ : Dev nD => iprop(emp))) ⊢ (partLeaf c c (partW m ρ c f) : sProp 𝕄) :=
    sep_elim_left
  have h2 : (partLeaf c c (partW m ρ c f) : sProp 𝕄) ⊢ iprop(partLeaf c c (partW m ρ c f) ∗ bigSep (Finset.univ.erase c) (fun _ : Dev nD => iprop(emp))) := by
    rw [show bigSep (Finset.univ.erase c) (fun _ : Dev nD => (iprop(emp) : sProp 𝕄)) = iprop(emp) from BI.bigSep_emp_const _]
    iintro H
    isplitl; · iexact H
    iempintro
  exact BI.Entails.antisymm h1 h2

/-! ## The parts -/

set_option maxRecDepth 20000 in
set_option maxHeartbeats 2000000 in
theorem part18_wp (c : Dev nD) (w : BitVec 32) (q : FVec F S8x8x64 .bf16) (k v : FVec F S1024x8x64 .bf16) (cnt : FVec F S8x1024 .f32)
    (msk : IVec S8x1024 1) (f f₀ : PartBuf F) (hf : stepH 7 q k v cnt msk f = partW m ρ c f₀) (Q : _ → sProp 𝕄) :
    iprop(recs m ρ K ∗ owesE c (O₁ c) ∗ partPts c f ∗ all8 (sndRes c))
      ⊢ iprop(((owesE c (owedSends c [3, 4, 5, 6, 7]) ∗ (sndOut c 0 ∗ sndOut c 1 ∗ sndOut c 2)
          ∗ (sndIn m ρ c 3 f₀ ∗ sndIn m ρ c 4 f₀ ∗ sndIn m ρ c 5 f₀ ∗ sndIn m ρ c 6 f₀ ∗ sndIn m ρ c 7 f₀) ∗ all8 (keepLeaf m ρ c f₀)) -∗ Q ⟨⟩)
        -∗ runs c (k0_part18 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 c w v cnt msk (k0_pay127 q k) (k0_pay128 q k msk)) Q) := by
  rw [k0_part18_eq_skeleton]; unfold k0_part18_skel
  iintro ⟨#HR, HO, H, Hs⟩ Hk
  iapply load_step $$ H; iintro H
  iapply (store_step rfl) $$ H; iintro H
  iapply load_step $$ H; iintro H
  iapply (store_step rfl) $$ H; iintro H
  iapply load_step $$ H; iintro H
  iapply (store_step rfl) $$ H; iintro H
  have hf' : put (Rect.unit (s := S8x8x128) ![0, 7, 65] S8x1x1.size inb_S8x8x128_S8x1x1_0_7_65) (k0_pay133 cnt msk (k0_pay127 q k) (k0_pay128 q k msk))
      (put (Rect.unit (s := S8x8x128) ![0, 7, 64] S8x1x1.size inb_S8x8x128_S8x1x1_0_7_64) (k0_pay132 (k0_pay128 q k msk))
        (put (Rect.unit (s := S8x8x128) ![0, 7, 0] S8x1x64.size inb_S8x8x128_S8x1x64_0_7_0) (k0_pay131 v cnt msk (k0_pay127 q k) (k0_pay128 q k msk)) f))
      = partW m ρ c f₀ := hf
  rw [hf']
  ihave Hs := (snd_intro_all m ρ c f₀) $$ [Hs H]
  · isplitl [Hs] <;> iassumption
  icases Hs with ⟨Hs, Hkeep⟩
  unfold O₁ all8
  icases Hs with ⟨H0, H1, H2, H3, H4, H5, H6, H7⟩
  iapply (send_step m ρ K (p := 0) (fun h => (⟨k0_dev9, k0_dev9_lt c h⟩ : Dev nD)) (by clear hf hf'; revert c; decide) (fun _ => Fin.ext k0_dev9_eq)
      (k0_off1_eq c) (k0_off2_eq c) rfl f₀ [1, 2, 3, 4, 5, 6, 7]) $$ [HO H0]
  · isplitr; · iexact HR
    isplitl [HO]; · iexact HO
    iexact H0
  iintro ⟨HO, H0⟩
  iapply (send_step m ρ K (p := 1) (fun h => (⟨k0_dev10, k0_dev10_lt c h⟩ : Dev nD)) (by clear hf hf'; revert c; decide) (fun _ => Fin.ext k0_dev10_eq)
      (k0_off3_eq c) (k0_off4_eq c) rfl f₀ [2, 3, 4, 5, 6, 7]) $$ [HO H1]
  · isplitr; · iexact HR
    isplitl [HO]; · iexact HO
    iexact H1
  iintro ⟨HO, H1⟩
  iapply (send_step m ρ K (p := 2) (fun h => (⟨k0_dev11, k0_dev11_lt c h⟩ : Dev nD)) (by clear hf hf'; revert c; decide) (fun _ => Fin.ext k0_dev11_eq)
      (k0_off5_eq c) (k0_off6_eq c) rfl f₀ [3, 4, 5, 6, 7]) $$ [HO H2]
  · isplitr; · iexact HR
    isplitl [HO]; · iexact HO
    iexact H2
  iintro ⟨HO, H2⟩
  rw [runs, wp_pure]
  imodintro
  iapply Hk
  isplitl [HO]; · iexact HO
  isplitl [H0 H1 H2]
  · isplitl [H0]; · iexact H0
    isplitl [H1] <;> iassumption
  isplitl [H3 H4 H5 H6 H7]
  · isplitl [H3]; · iexact H3
    isplitl [H4]; · iexact H4
    isplitl [H5]; · iexact H5
    isplitl [H6] <;> iassumption
  iexact Hkeep

set_option maxRecDepth 20000 in
set_option maxHeartbeats 2000000 in
theorem part19_wp (c : Dev nD) (f₀ : PartBuf F) (Q : _ → sProp 𝕄) :
    iprop(recs m ρ K ∗ owesE c (owedSends c [3, 4, 5, 6, 7])
        ∗ (sndIn m ρ c 3 f₀ ∗ sndIn m ρ c 4 f₀ ∗ sndIn m ρ c 5 f₀ ∗ sndIn m ρ c 6 f₀ ∗ sndIn m ρ c 7 f₀) ∗ rcvIn c 0 ∗ rcvIn c 1)
      ⊢ iprop(((owesE c 0 ∗ (sndOut c 3 ∗ sndOut c 4 ∗ sndOut c 5 ∗ sndOut c 6 ∗ sndOut c 7) ∗ rcvOut m ρ c 0 ∗ rcvOut m ρ c 1)
          -∗ Q ⟨Scalar.extui (Scalar.cmpi .ne (wordOf c) 2#32), 0#32⟩)
        -∗ runs c (k0_part19 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 c (wordOf c)) Q) := by
  rw [k0_part19_eq_skeleton]; unfold k0_part19_skel
  iintro ⟨#HR, HO, ⟨H3, H4, H5, H6, H7⟩, H0, H1⟩ Hk
  iapply (send_step m ρ K (p := 3) (fun h => (⟨k0_dev12, k0_dev12_lt c h⟩ : Dev nD)) (by revert c; decide) (fun _ => Fin.ext k0_dev12_eq)
      (k0_off7_eq c) (k0_off8_eq c) rfl f₀ [4, 5, 6, 7]) $$ [HO H3]
  · isplitr; · iexact HR
    isplitl [HO]; · iexact HO
    iexact H3
  iintro ⟨HO, H3⟩
  iapply (send_step m ρ K (p := 4) (fun h => (⟨k0_dev13, k0_dev13_lt c h⟩ : Dev nD)) (by revert c; decide) (fun _ => Fin.ext k0_dev13_eq)
      (k0_off9_eq c) (k0_off10_eq c) rfl f₀ [5, 6, 7]) $$ [HO H4]
  · isplitr; · iexact HR
    isplitl [HO]; · iexact HO
    iexact H4
  iintro ⟨HO, H4⟩
  iapply (send_step m ρ K (p := 5) (fun h => (⟨k0_dev14, k0_dev14_lt c h⟩ : Dev nD)) (by revert c; decide) (fun _ => Fin.ext k0_dev14_eq)
      (k0_off11_eq c) (k0_off12_eq c) rfl f₀ [6, 7]) $$ [HO H5]
  · isplitr; · iexact HR
    isplitl [HO]; · iexact HO
    iexact H5
  iintro ⟨HO, H5⟩
  iapply (send_step m ρ K (p := 6) (fun h => (⟨k0_dev15, k0_dev15_lt c h⟩ : Dev nD)) (by revert c; decide) (fun _ => Fin.ext k0_dev15_eq)
      (k0_off13_eq c) (k0_off14_eq c) rfl f₀ [7]) $$ [HO H6]
  · isplitr; · iexact HR
    isplitl [HO]; · iexact HO
    iexact H6
  iintro ⟨HO, H6⟩
  iapply (send_step m ρ K (p := 7) (fun h => (⟨k0_dev16, k0_dev16_lt c h⟩ : Dev nD)) (by revert c; decide) (fun _ => Fin.ext k0_dev16_eq)
      (k0_off15_eq c) (k0_off16_eq c) rfl f₀ []) $$ [HO H7]
  · isplitr; · iexact HR
    isplitl [HO]; · iexact HO
    iexact H7
  iintro ⟨HO, H7⟩
  iapply (recv_step m ρ K (p := 0) (by revert c; decide) rfl) $$ [HO H0]
  · isplitr; · iexact HR
    isplitl [HO]; · iexact HO
    iexact H0
  iintro ⟨HO, H0⟩
  iapply (recv_step m ρ K (p := 1) (by revert c; decide) rfl) $$ [HO H1]
  · isplitr; · iexact HR
    isplitl [HO]; · iexact HO
    iexact H1
  iintro ⟨HO, H1⟩
  rw [runs, wp_pure]
  imodintro
  iapply Hk
  isplitl [HO]; · iexact HO
  isplitl [H3 H4 H5 H6 H7]
  · isplitl [H3]; · iexact H3
    isplitl [H4]; · iexact H4
    isplitl [H5]; · iexact H5
    isplitl [H6] <;> iassumption
  isplitl [H0] <;> iassumption

/-! ## Loads of the combination -/

/-- Slot `p` of device `c`'s landing buffer, reading `y`. -/
def slotY (c p : Dev nD) (y : FVec F S1x8x8x128 .f32) : sProp 𝕄 :=
  iprop(∃ g : Buf (Elt F) ((slotM p).view.loc (c : Thread nD τ)),
    ⌜((bM : Memref sig .tc .vmem S8x8x8x128 .f32).access (rSlot p)).read (Elt F) g = y⌝
      ∗ ((slotM p).view.loc (c : Thread nD τ) ↦[(slotM p).view.set]{fullShare} g))

/-- A slot's contents as the combination reads them. -/
def asPart (y : FVec F S1x8x8x128 .f32) : FVec F S8x8x128 .f32 := shapeCast S8x8x128 y shapeCasts_S1x8x8x128_S8x8x128

theorem slotHas_open (c p : Dev nD) :
    slotHas m ρ c p ⊢ iprop(∃ y : FVec F S1x8x8x128 .f32, ⌜p ≠ c → ∃ f, asPart y = partW m ρ p f⌝ ∗ slotY c p y) := by
  unfold slotHas slotY
  iintro ⟨%f, %g, %hg, H⟩
  iexists (((bM : Memref sig .tc .vmem S8x8x8x128 .f32).access (rSlot p)).read (Elt F) g)
  isplitr
  · ipureintro
    intro hp
    exact ⟨f, (show _ = (slotM p).view.read (Elt F) g from rfl).trans (hg hp)⟩
  iexists g
  isplitr; · ipureintro; rfl
  iexact H

theorem slot_set (p : Dev nD) : (slotM p).view.set = ((bM : Memref sig .tc .vmem S8x8x8x128 .f32).access (rSlot p)).set :=
  View.set_reshape _ _

theorem slot_load {c : Dev nD} (p : Dev nD) {off : Fin 4 → Nat} (ho : off = ![p.val, 0, 0, 0]) {inB : ∀ a, off a + S1x8x8x128.size a ≤ S8x8x8x128.size a}
    {y : FVec F S1x8x8x128 .f32} {hl : (bM : Memref sig .tc .vmem S8x8x8x128 .f32).view.LoadsAt (Rect.unit (s := S8x8x8x128) off S1x8x8x128.size inB).toLoadRect}
    {α : Type} {k : ((Rect.unit (s := S8x8x8x128) off S1x8x8x128.size inB).shape.Idx → Elt F .f32) → Prog (TpuEff nD τ sig (Elt F) Λ₀ .tc) α} {Q : α → sProp 𝕄} :
    slotY c p y ⊢ iprop((slotY c p y -∗ runs c (k y) Q)
      -∗ runs c (Prog.lift (.load bM (Rect.unit (s := S8x8x8x128) off S1x8x8x128.size inB).toLoadRect hl) >>= k) Q) := by
  subst ho
  unfold slotY
  simp only [Prog.lift, Prog.bind_op, Prog.bind_ret]
  iintro ⟨%g, %hg, H⟩ Hk
  subst hg
  iapply (wp_load_rect 𝒱₀ (c : Thread nD τ) none Set.univ (m := bM) (r := rSlot p) (Finset.Subset.refl _)) $$ [H]
  · iapply (Entails.of_eq (congrArg (fun S => ((((bM : Memref sig .tc .vmem S8x8x8x128 .f32).access (rSlot p)).loc (c : Thread nD τ) ↦[S]{fullShare} g) : sProp 𝕄)) (slot_set p)))
    iexact H
  iintro H
  iapply Hk
  iexists g
  isplitr; · ipureintro; rfl
  iapply (Entails.of_eq (congrArg (fun S => ((((bM : Memref sig .tc .vmem S8x8x8x128 .f32).access (rSlot p)).loc (c : Thread nD τ) ↦[S]{fullShare} g) : sProp 𝕄)) (slot_set p).symm))
  iexact H

theorem zero3 : (![0, 0, 0] : Fin 3 → Nat) = fun _ => 0 := funext fun a => by fin_cases a <;> rfl

/-- Loading what lies in a held part of a buffer. -/
theorem load_part {c : Dev nD} {sp : CoreSpace} {s : Shape} {e : EltTy} {m : Memref sig .tc sp s e} {r : Rect s} {hl : m.view.LoadsAt r.toLoadRect}
    {f : Buf (Elt F) (m.view.loc (c : Thread nD τ))} {v : r.shape.Idx → Elt F e} (hv : m.view.readAt (Elt F) r.toLoadRect f = v)
    {S : Finset (Idx (m.view.loc (c : Thread nD τ)))} {q : PosShare TreeShare} (hS : m.view.setOn r.toLoadRect.set ⊆ S)
    {α : Type} {k : (r.shape.Idx → Elt F e) → Prog (TpuEff nD τ sig (Elt F) Λ₀ .tc) α} {Q : α → sProp 𝕄} :
    (m.view.loc (c : Thread nD τ) ↦[S]{q} f) ⊢ iprop(((m.view.loc (c : Thread nD τ) ↦[S]{q} f) -∗ runs c (k v) Q)
      -∗ runs c (Prog.lift (.load m r.toLoadRect hl) >>= k) Q) := by
  subst hv
  simp only [Prog.lift, Prog.bind_op, Prog.bind_ret]
  exact wp_load 𝒱₀ (c : Thread nD τ) none Set.univ (m := m) hS

theorem leaf_load {c : Dev nD} {p : Dev nD} {f : PartBuf F} {inB : ∀ a, (![0, 0, 0] : Fin 3 → Nat) a + S8x8x128.size a ≤ S8x8x128.size a}
    {hl : (pM : Memref sig .tc .vmem S8x8x128 .f32).view.LoadsAt (Rect.unit (s := S8x8x128) ![0, 0, 0] S8x8x128.size inB).toLoadRect}
    {α : Type} {k : ((Rect.unit (s := S8x8x128) ![0, 0, 0] S8x8x128.size inB).shape.Idx → Elt F .f32) → Prog (TpuEff nD τ sig (Elt F) Λ₀ .tc) α} {Q : α → sProp 𝕄} :
    partLeaf c p f ⊢ iprop((partLeaf c p f -∗ runs c (k f) Q)
      -∗ runs c (Prog.lift (.load pM (Rect.unit (s := S8x8x128) ![0, 0, 0] S8x8x128.size inB).toLoadRect hl) >>= k) Q) := by
  unfold partLeaf
  exact load_part (m := pM) (Memref.readAt_unit_zero (Elt F) cc0_scratch0 zero3 _ f)
    (by rw [show (pM : Memref sig .tc .vmem S8x8x128 .f32).view.set = Finset.univ from View.set_whole _]; exact Finset.subset_univ _)

set_option maxRecDepth 20000 in
set_option maxHeartbeats 2000000 in
theorem part20_wp (c : Dev nD) (f₀ : PartBuf F) (y₀ : FVec F S1x8x8x128 .f32) (Q : _ → sProp 𝕄) :
    iprop(recs m ρ K ∗ owesE c 0 ∗ (rcvIn c 2 ∗ rcvIn c 3 ∗ rcvIn c 4 ∗ rcvIn c 5 ∗ rcvIn c 6 ∗ rcvIn c 7) ∗ all8 (keepLeaf m ρ c f₀) ∗ slotY c 0 y₀)
      ⊢ iprop(((owesE c 0 ∗ (rcvOut m ρ c 2 ∗ rcvOut m ρ c 3 ∗ rcvOut m ρ c 4 ∗ rcvOut m ρ c 5 ∗ rcvOut m ρ c 6 ∗ rcvOut m ρ c 7)
            ∗ all8 (keepLeaf m ρ c f₀) ∗ slotY c 0 y₀)
          -∗ Q ⟨k0_pay134 (partW m ρ c f₀), k0_pay135 (partW m ρ c f₀), k0_pay136 (partW m ρ c f₀), k0_pay137 y₀⟩)
        -∗ runs c (k0_part20 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 (wordOf c) (Scalar.extui (Scalar.cmpi .ne (wordOf c) 2#32)) 0#32) Q) := by
  rw [k0_part20_eq_skeleton]; unfold k0_part20_skel
  rw [keep_eq]
  iintro ⟨#HR, HO, ⟨H2, H3, H4, H5, H6, H7⟩, Hl, Hy⟩ Hk
  iapply (recv_step m ρ K (p := 2) (by revert c; decide) rfl) $$ [HO H2]
  · isplitr; · iexact HR
    isplitl [HO]; · iexact HO
    iexact H2
  iintro ⟨HO, H2⟩
  iapply (recv_step m ρ K (p := 3) (by revert c; decide) rfl) $$ [HO H3]
  · isplitr; · iexact HR
    isplitl [HO]; · iexact HO
    iexact H3
  iintro ⟨HO, H3⟩
  iapply (recv_step m ρ K (p := 4) (by revert c; decide) rfl) $$ [HO H4]
  · isplitr; · iexact HR
    isplitl [HO]; · iexact HO
    iexact H4
  iintro ⟨HO, H4⟩
  iapply (recv_step m ρ K (p := 5) (by revert c; decide) rfl) $$ [HO H5]
  · isplitr; · iexact HR
    isplitl [HO]; · iexact HO
    iexact H5
  iintro ⟨HO, H5⟩
  iapply (recv_step m ρ K (p := 6) (by revert c; decide) rfl) $$ [HO H6]
  · isplitr; · iexact HR
    isplitl [HO]; · iexact HO
    iexact H6
  iintro ⟨HO, H6⟩
  iapply (recv_step m ρ K (p := 7) (by revert c; decide) rfl) $$ [HO H7]
  · isplitr; · iexact HR
    isplitl [HO]; · iexact HO
    iexact H7
  iintro ⟨HO, H7⟩
  iapply leaf_load $$ Hl; iintro Hl
  iapply (slot_load 0 rfl) $$ Hy; iintro Hy
  rw [runs, wp_pure]
  imodintro
  iapply Hk
  isplitl [HO]; · iexact HO
  isplitl [H2 H3 H4 H5 H6 H7]
  · isplitl [H2]; · iexact H2
    isplitl [H3]; · iexact H3
    isplitl [H4]; · iexact H4
    isplitl [H5]; · iexact H5
    isplitl [H6] <;> iassumption
  isplitl [Hl] <;> iassumption

end Cert.PagedProof

end
-- ==== Proof.Compute.lean ====
/-
# The parts that only compute

Parts 3 to 11 count how often each key row is asked for; parts 21 to 23 combine the eight partial results.
Each is the value it returns, and the returned values are the ones named in `Values`.
-/
module

public import proofs.«01_k».proof.Proof.Exchange

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part3_eq (v49 : IVec S8x64 32) (v66 : FVec F S8 .f32) :
    k0_part3 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v49 v66 = pure ⟨k0_pay8 v66, k0_pay9 (F := F) v49, k0_pay10 (F := F) v49, k0_pay11 (F := F) v49, k0_pay12 (F := F) v49, k0_pay13 (F := F) v49, k0_pay14 (F := F) v49, k0_pay15 (F := F) v49, k0_pay16 v49⟩ := by
  rw [k0_part3_eq_skeleton]; rfl

theorem part4_eq (v49 : IVec S8x64 32) (v111 : IVec S8x64 1) :
    k0_part4 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v49 v111 = pure ⟨k0_pay17 (F := F) v111, k0_pay18 (F := F) v49, k0_pay19 (F := F) v49, k0_pay20 (F := F) v49, k0_pay21 (F := F) v49, k0_pay22 (F := F) v49, k0_pay23 (F := F) v49, k0_pay24 (F := F) v49⟩ := by
  rw [k0_part4_eq_skeleton]; rfl

theorem part5_eq (v49 : IVec S8x64 32) (v156 : FVec F S8 .f32) :
    k0_part5 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v49 v156 = pure ⟨k0_pay25 v156, k0_pay26 (F := F) v49, k0_pay27 (F := F) v49, k0_pay28 (F := F) v49, k0_pay29 (F := F) v49, k0_pay30 (F := F) v49, k0_pay31 (F := F) v49, k0_pay32 (F := F) v49, k0_pay33 v49⟩ := by
  rw [k0_part5_eq_skeleton]; rfl

theorem part6_eq (v49 : IVec S8x64 32) (v201 : IVec S8x64 1) :
    k0_part6 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v49 v201 = pure ⟨k0_pay34 (F := F) v201, k0_pay35 (F := F) v49, k0_pay36 (F := F) v49, k0_pay37 (F := F) v49, k0_pay38 (F := F) v49, k0_pay39 (F := F) v49, k0_pay40 (F := F) v49, k0_pay41 (F := F) v49⟩ := by
  rw [k0_part6_eq_skeleton]; rfl

theorem part7_eq (v49 : IVec S8x64 32) (v246 : FVec F S8 .f32) :
    k0_part7 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v49 v246 = pure ⟨k0_pay42 v246, k0_pay43 (F := F) v49, k0_pay44 (F := F) v49, k0_pay45 (F := F) v49, k0_pay46 (F := F) v49, k0_pay47 (F := F) v49, k0_pay48 (F := F) v49, k0_pay49 (F := F) v49, k0_pay50 v49⟩ := by
  rw [k0_part7_eq_skeleton]; rfl

theorem part8_eq (v49 : IVec S8x64 32) (v291 : IVec S8x64 1) :
    k0_part8 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v49 v291 = pure ⟨k0_pay51 (F := F) v291, k0_pay52 (F := F) v49, k0_pay53 (F := F) v49, k0_pay54 (F := F) v49, k0_pay55 (F := F) v49, k0_pay56 (F := F) v49, k0_pay57 (F := F) v49, k0_pay58 (F := F) v49⟩ := by
  rw [k0_part8_eq_skeleton]; rfl

theorem part9_eq (v49 : IVec S8x64 32) (v336 : FVec F S8 .f32) :
    k0_part9 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v49 v336 = pure ⟨k0_pay59 v336, k0_pay60 (F := F) v49, k0_pay61 (F := F) v49, k0_pay62 (F := F) v49, k0_pay63 (F := F) v49, k0_pay64 (F := F) v49, k0_pay65 (F := F) v49, k0_pay66 (F := F) v49, k0_pay67 v49⟩ := by
  rw [k0_part9_eq_skeleton]; rfl

theorem part10_eq (v49 : IVec S8x64 32) (v381 : IVec S8x64 1) :
    k0_part10 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v49 v381 = pure ⟨k0_pay68 (F := F) v381, k0_pay69 (F := F) v49, k0_pay70 (F := F) v49, k0_pay71 (F := F) v49, k0_pay72 (F := F) v49, k0_pay73 (F := F) v49, k0_pay74 (F := F) v49, k0_pay75 (F := F) v49⟩ := by
  rw [k0_part10_eq_skeleton]; rfl

set_option maxRecDepth 20000 in
theorem part11_eq (w : BitVec 32) (t : Vec F S8x64 .i32) (n : Vec F S8 .i32) (q : FVec F S8x8x64 .bf16) (k : FVec F S1024x8x64 .bf16) :
    k0_part11 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 q k (k0_pay4 w t n) (k0_pay5 w t n) (k0_pay6 w t n) (k0_pay8 (k0_pay7 w t n)) (k0_pay9 (F := F) (k0_pay4 w t n)) (k0_pay10 (F := F) (k0_pay4 w t n))
    (k0_pay11 (F := F) (k0_pay4 w t n)) (k0_pay12 (F := F) (k0_pay4 w t n)) (k0_pay13 (F := F) (k0_pay4 w t n)) (k0_pay14 (F := F) (k0_pay4 w t n)) (k0_pay15 (F := F) (k0_pay4 w t n))
    (k0_pay17 (F := F) (k0_pay16 (k0_pay4 w t n))) (k0_pay18 (F := F) (k0_pay4 w t n)) (k0_pay19 (F := F) (k0_pay4 w t n)) (k0_pay20 (F := F) (k0_pay4 w t n)) (k0_pay21 (F := F) (k0_pay4 w t n))
    (k0_pay22 (F := F) (k0_pay4 w t n)) (k0_pay23 (F := F) (k0_pay4 w t n)) (k0_pay25 (k0_pay24 (F := F) (k0_pay4 w t n))) (k0_pay26 (F := F) (k0_pay4 w t n)) (k0_pay27 (F := F) (k0_pay4 w t n))
    (k0_pay28 (F := F) (k0_pay4 w t n)) (k0_pay29 (F := F) (k0_pay4 w t n)) (k0_pay30 (F := F) (k0_pay4 w t n)) (k0_pay31 (F := F) (k0_pay4 w t n)) (k0_pay32 (F := F) (k0_pay4 w t n))
    (k0_pay34 (F := F) (k0_pay33 (k0_pay4 w t n))) (k0_pay35 (F := F) (k0_pay4 w t n)) (k0_pay36 (F := F) (k0_pay4 w t n)) (k0_pay37 (F := F) (k0_pay4 w t n)) (k0_pay38 (F := F) (k0_pay4 w t n))
    (k0_pay39 (F := F) (k0_pay4 w t n)) (k0_pay40 (F := F) (k0_pay4 w t n)) (k0_pay42 (k0_pay41 (F := F) (k0_pay4 w t n))) (k0_pay43 (F := F) (k0_pay4 w t n)) (k0_pay44 (F := F) (k0_pay4 w t n))
    (k0_pay45 (F := F) (k0_pay4 w t n)) (k0_pay46 (F := F) (k0_pay4 w t n)) (k0_pay47 (F := F) (k0_pay4 w t n)) (k0_pay48 (F := F) (k0_pay4 w t n)) (k0_pay49 (F := F) (k0_pay4 w t n))
    (k0_pay51 (F := F) (k0_pay50 (k0_pay4 w t n))) (k0_pay52 (F := F) (k0_pay4 w t n)) (k0_pay53 (F := F) (k0_pay4 w t n)) (k0_pay54 (F := F) (k0_pay4 w t n)) (k0_pay55 (F := F) (k0_pay4 w t n))
    (k0_pay56 (F := F) (k0_pay4 w t n)) (k0_pay57 (F := F) (k0_pay4 w t n)) (k0_pay59 (k0_pay58 (F := F) (k0_pay4 w t n))) (k0_pay60 (F := F) (k0_pay4 w t n)) (k0_pay61 (F := F) (k0_pay4 w t n))
    (k0_pay62 (F := F) (k0_pay4 w t n)) (k0_pay63 (F := F) (k0_pay4 w t n)) (k0_pay64 (F := F) (k0_pay4 w t n)) (k0_pay65 (F := F) (k0_pay4 w t n)) (k0_pay66 (F := F) (k0_pay4 w t n))
    (k0_pay68 (F := F) (k0_pay67 (k0_pay4 w t n))) (k0_pay69 (F := F) (k0_pay4 w t n)) (k0_pay70 (F := F) (k0_pay4 w t n)) (k0_pay71 (F := F) (k0_pay4 w t n)) (k0_pay72 (F := F) (k0_pay4 w t n))
    (k0_pay73 (F := F) (k0_pay4 w t n)) (k0_pay74 (F := F) (k0_pay4 w t n)) (k0_pay75 (F := F) (k0_pay4 w t n))
      = pure ⟨cntOf w t n, mskOf w t n, scH 0 q k⟩ := by
  rw [k0_part11_eq_skeleton]; rfl

set_option maxRecDepth 20000 in
set_option maxHeartbeats 1000000 in
theorem part21_wp (c : Dev nD) (v2 : BitVec 32) (v772 : FVec F S8x8x64 .f32) (v773 : FVec F S8x8x1 .f32) (v774 : FVec F S8x8x1 .f32) (v776 : FVec F S8x8x128 .f32)
    (y1 y2 y3 y4 : FVec F S1x8x8x128 .f32) (Q : _ → sProp 𝕄) :
    iprop(slotY c 1 y1 ∗ slotY c 2 y2 ∗ slotY c 3 y3 ∗ slotY c 4 y4)
      ⊢ iprop(((slotY c 1 y1 ∗ slotY c 2 y2 ∗ slotY c 3 y3 ∗ slotY c 4 y4) -∗ Q ⟨k0_pay138 v2 v772 v776, k0_pay139 v2 v773 v776, k0_pay140 v2 v774 v776, k0_pay142 v2 v772 y1, k0_pay143 v2 v773 y1, k0_pay144 v2 v774 y1, k0_pay146 v2 v772 y2, k0_pay147 v2 v773 y2, k0_pay148 v2 v774 y2, k0_pay150 v2 v772 y3, k0_pay151 v2 v773 y3, k0_pay152 v2 v774 y3, k0_pay153 y4, (Scalar.cmpi .eq v2 4#32), k0_pay154 v2 v772 y4⟩)
        -∗ runs c (k0_part21 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v2 v772 v773 v774 v776) Q) := by
  rw [k0_part21_eq_skeleton]; unfold k0_part21_skel
  iintro ⟨H1, H2, H3, H4⟩ Hk
  iapply (slot_load 1 rfl) $$ H1; iintro H1
  iapply (slot_load 2 rfl) $$ H2; iintro H2
  iapply (slot_load 3 rfl) $$ H3; iintro H3
  iapply (slot_load 4 rfl) $$ H4; iintro H4
  rw [runs, wp_pure]
  imodintro
  iapply Hk
  isplitl [H1]; · iexact H1
  isplitl [H2]; · iexact H2
  isplitl [H3] <;> iassumption

set_option maxRecDepth 20000 in
set_option maxHeartbeats 1000000 in
theorem part22_wp (c : Dev nD) (v2 : BitVec 32) (v772 : FVec F S8x8x64 .f32) (v773 : FVec F S8x8x1 .f32) (v774 : FVec F S8x8x1 .f32) (v781 : FVec F S8x8x1 .f32) (v790 : FVec F S8x8x1 .f32) (v799 : FVec F S8x8x1 .f32) (v808 : FVec F S8x8x1 .f32) (v812 : FVec F S8x8x128 .f32) (v813 : BitVec 1)
    (y5 y6 y7 : FVec F S1x8x8x128 .f32) (Q : _ → sProp 𝕄) :
    iprop(slotY c 5 y5 ∗ slotY c 6 y6 ∗ slotY c 7 y7)
      ⊢ iprop(((slotY c 5 y5 ∗ slotY c 6 y6 ∗ slotY c 7 y7) -∗ Q ⟨k0_pay155 v773 v812 v813, k0_pay156 v774 v812 v813, k0_pay158 v2 v772 y5, k0_pay159 v2 v773 y5, k0_pay160 v2 v774 y5, k0_pay162 v2 v772 y6, k0_pay163 v2 v773 y6, k0_pay164 v2 v774 y6, k0_pay166 v2 v772 y7, k0_pay167 v2 v773 y7, k0_pay168 v2 v774 y7, k0_pay169 v2 v773 v781 v790 v799 v808 v812 v813 y5 y6 y7, k0_pay170 (F := F), k0_pay171 (F := F), k0_pay172 v2 v773 v781 v790 v799 v808 v812 v813 y5 y6 y7, k0_pay173 v2 v773 v781 v790 v799 v808 v812 v813 y5 y6 y7⟩)
        -∗ runs c (k0_part22 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v2 v772 v773 v774 v781 v790 v799 v808 v812 v813) Q) := by
  rw [k0_part22_eq_skeleton]; unfold k0_part22_skel
  iintro ⟨H5, H6, H7⟩ Hk
  iapply (slot_load 5 rfl) $$ H5; iintro H5
  iapply (slot_load 6 rfl) $$ H6; iintro H6
  iapply (slot_load 7 rfl) $$ H7; iintro H7
  rw [runs, wp_pure]
  imodintro
  iapply Hk
  isplitl [H5]; · iexact H5
  isplitl [H6] <;> iassumption

theorem part23_eq (v779 : FVec F S8x8x64 .f32) (v783 : FVec F S8x8x1 .f32) (v788 : FVec F S8x8x64 .f32) (v790 : FVec F S8x8x1 .f32) (v792 : FVec F S8x8x1 .f32) (v797 : FVec F S8x8x64 .f32) (v799 : FVec F S8x8x1 .f32) (v801 : FVec F S8x8x1 .f32) (v806 : FVec F S8x8x64 .f32) (v808 : FVec F S8x8x1 .f32) (v810 : FVec F S8x8x1 .f32) (v815 : FVec F S8x8x64 .f32) (v817 : FVec F S8x8x1 .f32) (v819 : FVec F S8x8x1 .f32) (v824 : FVec F S8x8x64 .f32) (v826 : FVec F S8x8x1 .f32) (v828 : FVec F S8x8x1 .f32) (v833 : FVec F S8x8x64 .f32) (v835 : FVec F S8x8x1 .f32) (v837 : FVec F S8x8x1 .f32) (v842 : FVec F S8x8x64 .f32) (v844 : FVec F S8x8x1 .f32) (v846 : FVec F S8x8x1 .f32) (v853 : FVec F S8x8x1 .f32) (v854 : FVec F S8x8x64 .f32) (v855 : FVec F S8x8x1 .f32) (v857 : FVec F S8x8x1 .f32) (v858 : FVec F S8x8x64 .f32) :
    k0_part23 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 v779 v783 v788 v790 v792 v797 v799 v801 v806 v808 v810 v815 v817 v819 v824 v826 v828 v833 v835 v837 v842 v844 v846 v853 v854 v855 v857 v858 = pure (k0_pay174 v779 v783 v788 v790 v792 v797 v799 v801 v806 v808 v810 v815 v817 v819 v824 v826 v828 v833 v835 v837 v842 v844 v846 v853 v854 v855 v857 v858) := by
  rw [k0_part23_eq_skeleton]; rfl

/-- The value of part 23 at what parts 20 to 22 return is the combination of the partial results. -/
theorem result_eq (w : BitVec 32) (x : FVec F S8x8x128 .f32) (y0 y1 y2 y3 y4 y5 y6 y7 : FVec F S1x8x8x128 .f32) :
    k0_pay174 (k0_pay138 w (k0_pay134 x) (k0_pay137 y0)) (k0_pay140 w (k0_pay136 x) (k0_pay137 y0)) (k0_pay142 w (k0_pay134 x) y1) (k0_pay143 w (k0_pay135 x) y1) (k0_pay144 w (k0_pay136 x) y1) (k0_pay146 w (k0_pay134 x) y2) (k0_pay147 w (k0_pay135 x) y2) (k0_pay148 w (k0_pay136 x) y2) (k0_pay150 w (k0_pay134 x) y3) (k0_pay151 w (k0_pay135 x) y3) (k0_pay152 w (k0_pay136 x) y3) (k0_pay154 w (k0_pay134 x) y4) (k0_pay155 (k0_pay135 x) (k0_pay153 y4) (Scalar.cmpi .eq w 4#32)) (k0_pay156 (k0_pay136 x) (k0_pay153 y4) (Scalar.cmpi .eq w 4#32)) (k0_pay158 w (k0_pay134 x) y5) (k0_pay159 w (k0_pay135 x) y5) (k0_pay160 w (k0_pay136 x) y5) (k0_pay162 w (k0_pay134 x) y6) (k0_pay163 w (k0_pay135 x) y6) (k0_pay164 w (k0_pay136 x) y6) (k0_pay166 w (k0_pay134 x) y7) (k0_pay167 w (k0_pay135 x) y7) (k0_pay168 w (k0_pay136 x) y7) (k0_pay169 w (k0_pay135 x) (k0_pay139 w (k0_pay135 x) (k0_pay137 y0)) (k0_pay143 w (k0_pay135 x) y1) (k0_pay147 w (k0_pay135 x) y2) (k0_pay151 w (k0_pay135 x) y3) (k0_pay153 y4) (Scalar.cmpi .eq w 4#32) y5 y6 y7) (k0_pay170 (F := F)) (k0_pay171 (F := F)) (k0_pay172 w (k0_pay135 x) (k0_pay139 w (k0_pay135 x) (k0_pay137 y0)) (k0_pay143 w (k0_pay135 x) y1) (k0_pay147 w (k0_pay135 x) y2) (k0_pay151 w (k0_pay135 x) y3) (k0_pay153 y4) (Scalar.cmpi .eq w 4#32) y5 y6 y7) (k0_pay173 w (k0_pay135 x) (k0_pay139 w (k0_pay135 x) (k0_pay137 y0)) (k0_pay143 w (k0_pay135 x) y1) (k0_pay147 w (k0_pay135 x) y2) (k0_pay151 w (k0_pay135 x) y3) (k0_pay153 y4) (Scalar.cmpi .eq w 4#32) y5 y6 y7)
      = resultOf w x (fun p => asPart ((![y0, y1, y2, y3, y4, y5, y6, y7] : Fin 8 → FVec F S1x8x8x128 .f32) p)) := rfl

end Cert.PagedProof

end
-- ==== Proof.Body.lean ====
/-
# The body

The parts in sequence, run once at a device `c`: what the device holds when the body starts, what it holds when
the body ends, and the value it leaves in the result's staging buffer.
-/
module

public import proofs.«01_k».proof.Proof.Compute

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Running a part and then the rest -/

theorem then_run {c : Dev nD} {α β : Type} {x : Prog (TpuEff nD τ sig (Elt F) Λ₀ .tc) α} {r : α} {P S : sProp 𝕄}
    (h : ∀ Q : α → sProp 𝕄, P ⊢ iprop((S -∗ Q r) -∗ runs c x Q)) {k : α → Prog (TpuEff nD τ sig (Elt F) Λ₀ .tc) β} {Q : β → sProp 𝕄} :
    P ⊢ iprop((S -∗ runs c (k r) Q) -∗ runs c (x >>= k) Q) := by
  have h' := h (fun a => runs c (k a) Q)
  unfold runs at h' ⊢; rw [wp_bind]; exact h'

theorem then_pure {c : Dev nD} {α β : Type} {x : Prog (TpuEff nD τ sig (Elt F) Λ₀ .tc) α} {r : α} (h : x = pure r)
    {k : α → Prog (TpuEff nD τ sig (Elt F) Λ₀ .tc) β} {Q : β → sProp 𝕄} : runs c (k r) Q ⊢ runs c (x >>= k) Q := by
  subst h; exact BI.Entails.refl _

/-! ## The conditions of the last waits -/

theorem cond25_iff (c : Dev nD) : k0_cond25 c = 1#1 ↔ (0 : Dev nD) ≠ c := by revert c; decide
theorem cond26_iff (c : Dev nD) : k0_cond26 c = 1#1 ↔ (1 : Dev nD) ≠ c := by revert c; decide
theorem cond27_iff (c : Dev nD) : k0_cond27 c = 1#1 ↔ (2 : Dev nD) ≠ c := by revert c; decide
theorem cond28_iff (c : Dev nD) : k0_cond28 c = 1#1 ↔ (3 : Dev nD) ≠ c := by revert c; decide
theorem cond29_iff (c : Dev nD) : k0_cond29 c = 1#1 ↔ (4 : Dev nD) ≠ c := by revert c; decide
theorem cond30_iff (c : Dev nD) : k0_cond30 c = 1#1 ↔ (5 : Dev nD) ≠ c := by revert c; decide
theorem cond31_iff (c : Dev nD) : k0_cond31 c = 1#1 ↔ (6 : Dev nD) ≠ c := by revert c; decide
theorem cond32_iff (c : Dev nD) : k0_cond32 c = 1#1 ↔ (7 : Dev nD) ≠ c := by revert c; decide

/-! ## What the device brings along -/

/-- The duties device `c` has to do for the copy to `p`. -/
def sndToks (c p : Dev nD) : sProp 𝕄 :=
  if p = c then iprop(emp) else iprop(dutyTok ER (sendCell c p) 0 0 ∗ dutyTok ER (recvCell p c) 0 0)

theorem emp_sep_of (P : sProp 𝕄) : iprop(emp ∗ P) = P := equiv_iff.mp BI.emp_sep

theorem sndRes_intro (c : Dev nD) :
    iprop(all8 (sndToks (F := F) c) ∗ bigSep (Finset.univ.erase c) (fun p => slotAny (F := F) p c)) ⊢ all8 (sndRes c) := by
  have h : bigSep (Finset.univ.erase c) (fun p => slotAny (F := F) p c)
      = all8 (fun p => if p = c then (iprop(emp) : sProp 𝕄) else slotAny p c) := by
    rw [← all8_eq, bigSep_univ_at _ c, if_pos rfl, emp_sep_of]
    exact bigSep_congr fun p hp => by rw [if_neg (Finset.ne_of_mem_erase hp)]
  rw [h, ← all8_sep]
  refine all8_mono fun p => ?_
  unfold sndToks sndRes
  by_cases h : p = c
  · rw [if_pos h, if_pos h, if_pos h]
    exact sep_elim_left
  · rw [if_neg h, if_neg h, if_neg h]
    iintro ⟨⟨H1, H2⟩, H3⟩
    isplitl [H1]; · iexact H1
    isplitl [H2] <;> iassumption

theorem ack_intro (c p : Dev nD) (f : PartBuf F) :
    iprop(atPos ER (sendCell c p) 0 ∅ 0 ∗ sndOut c p ∗ keepLeaf m ρ c f p) ⊢ ackIn m ρ c p := by
  unfold sndOut keepLeaf ackIn
  by_cases h : p = c
  · rw [if_pos h, if_pos h, if_pos h]
    unfold partShare partLeaf
    iintro ⟨H1, H2, H3⟩
    isplitl [H1]; · iexact H1
    iexists f
    iexact H3
  · rw [if_neg h, if_neg h, if_neg h]
    iintro ⟨H1, H2, H3⟩
    isplitl [H1]; · iexact H1
    iexact H2

theorem ack_intro_all (c : Dev nD) (f : PartBuf F) :
    iprop(all8 (fun p => atPos ER (sendCell c p) 0 ∅ 0) ∗ all8 (fun p => sndOut (F := F) c p) ∗ all8 (keepLeaf m ρ c f)) ⊢ all8 (fun p => ackIn m ρ c p) := by
  rw [← all8_sep, ← all8_sep]
  exact all8_mono fun p => ack_intro m ρ c p f

/-- The staging buffers of the operands, filled. -/
def operands (c : Dev nD) : sProp 𝕄 :=
  iprop(stg c cc0_stg0_0 (stQ m ρ c) ∗ stg c cc0_stg1_0 (stK m ρ c) ∗ stg c cc0_stg2_0 (stV m ρ c) ∗ stg c cc0_stg3_0 (stT m ρ c) ∗ stg c cc0_stg4_0 (stN m ρ c))

/-- What the body starts from, beside the records and the levels. -/
def bodyIn (c : Dev nD) (f₀ : PartBuf F) (g₀ : (cc0_stg5_0 : Ref sig .tc).ty.Contents (Elt F)) : sProp 𝕄 :=
  iprop(owesE c (O₀ c) ∗ operands m ρ c ∗ stg c cc0_stg5_0 g₀ ∗ partPts c f₀
    ∗ all8 (sigIn c) ∗ (cred (tallyAt (barCell c) () 7) ∗ atPos ER (barCell c) 0 ∅ 0)
    ∗ all8 (sndToks c) ∗ all8 (rcvIn c) ∗ all8 (fun p => atPos ER (sendCell c p) 0 ∅ 0))

/-- A slot of the landing buffer and its semaphore, done with. -/
def slotEnd (c p : Dev nD) : sProp 𝕄 := iprop(semVal (recvCell c p) 0 ∗ slotAny c p)

/-- The result of device `c` from its own partial buffer over `f₀` and what its slots hold. -/
def resAt (c : Dev nD) (f₀ : PartBuf F) (y : Fin 8 → FVec F S1x8x8x128 .f32) : FVec F S8x1x8x64 .f32 :=
  resultOf (wordOf c) (partW m ρ c f₀) (fun p => asPart (y p))

/-- Every slot but the device's own holds the partial result of its peer. -/
def Landed (c : Dev nD) (y : Fin 8 → FVec F S1x8x8x128 .f32) : Prop :=
  ∀ p : Dev nD, p ≠ c → ∃ f, asPart (y p) = partW m ρ p f

/-- What the body ends with. -/
def bodyOut (c : Dev nD) (f₀ : PartBuf F) : sProp 𝕄 :=
  iprop(owesE c 0 ∗ operands m ρ c
    ∗ (∃ y : Fin 8 → FVec F S1x8x8x128 .f32, ⌜Landed m ρ c y⌝ ∗ stg c cc0_stg5_0 (resAt m ρ c f₀ y))
    ∗ semVal (barCell c) 0 ∗ all8 (ackOut m ρ c) ∗ all8 (slotEnd c))

theorem slotEnd_intro (c p : Dev nD) (y : FVec F S1x8x8x128 .f32) : iprop(semVal (recvCell c p) 0 ∗ slotY c p y) ⊢ slotEnd (F := F) c p := by
  unfold slotEnd slotY slotAny
  iintro ⟨H1, %g, %hg, H2⟩
  isplitl [H1]; · iexact H1
  iexists g
  iexact H2

/-- Storing into a buffer held whole. -/
theorem store_at {c : Dev nD} {sp : CoreSpace} {s : Shape} {e : EltTy} {M : Memref sig .tc sp s e} {r : Rect s} {w : r.shape.Idx → Elt F e}
    {hx : (M.access r).Stores Finset.univ} {hm : (Finset.univ : Finset r.shape.Idx) = Finset.univ ∨ ∀ a, r.stride a = 1}
    {f f' : Buf (Elt F) (M.view.loc (c : Thread nD τ))} (hf : (M.access r).write (Elt F) f w Finset.univ = f')
    {α : Type} {k : PUnit → Prog (TpuEff nD τ sig (Elt F) Λ₀ .tc) α} {Q : α → sProp 𝕄} :
    (M.view.loc (c : Thread nD τ) ↦{fullShare} f) ⊢ iprop(((M.view.loc (c : Thread nD τ) ↦{fullShare} f') -∗ runs c (k ⟨⟩) Q)
      -∗ runs c (Prog.lift (.store M r w Finset.univ hx hm) >>= k) Q) := by
  subst hf
  simp only [Prog.lift, Prog.bind_op, Prog.bind_ret]
  exact wp_store 𝒱₀ (c : Thread nD τ) none Set.univ (m := M) (r := r) (Mk := Finset.univ) (Finset.subset_univ _)

theorem store_out {c : Dev nD} {w : FVec F S8x1x8x64 .f32} {inB : ∀ a, (![0, 0, 0, 0] : Fin 4 → Nat) a + S8x1x8x64.size a ≤ S8x1x8x64.size a}
    {hx : ((Memref.whole cc0_stg5_0 : Memref sig .tc .vmem S8x1x8x64 .f32).access (Rect.unit (s := S8x1x8x64) ![0, 0, 0, 0] S8x1x8x64.size inB)).Stores Finset.univ}
    {hm : (Finset.univ : Finset (Rect.unit (s := S8x1x8x64) ![0, 0, 0, 0] S8x1x8x64.size inB).shape.Idx) = Finset.univ ∨ ∀ a, (Rect.unit (s := S8x1x8x64) ![0, 0, 0, 0] S8x1x8x64.size inB).stride a = 1}
    {f : (cc0_stg5_0 : Ref sig .tc).ty.Contents (Elt F)}
    {α : Type} {k : PUnit → Prog (TpuEff nD τ sig (Elt F) Λ₀ .tc) α} {Q : α → sProp 𝕄} :
    stg c cc0_stg5_0 f ⊢ iprop((stg c cc0_stg5_0 w -∗ runs c (k ⟨⟩) Q)
      -∗ runs c (Prog.lift (.store (Memref.whole cc0_stg5_0 : Memref sig .tc .vmem S8x1x8x64 .f32) (Rect.unit (s := S8x1x8x64) ![0, 0, 0, 0] S8x1x8x64.size inB) w Finset.univ hx hm) >>= k) Q) := by
  exact store_at (Memref.write_access_unit_zero_univ (Elt F) cc0_stg5_0 zero4 _ f w)

/-! ## Parts 1 to 24 -/

/-- What parts 1 to 24 end with. -/
def midOut (c : Dev nD) (f₀ : PartBuf F) : sProp 𝕄 :=
  iprop(owesE c 0 ∗ operands m ρ c
    ∗ (∃ y : Fin 8 → FVec F S1x8x8x128 .f32, ⌜Landed m ρ c y⌝ ∗ stg c cc0_stg5_0 (resAt m ρ c f₀ y))
    ∗ semVal (barCell c) 0 ∗ (ackOut m ρ c 0 ∗ ackOut m ρ c 1 ∗ ackOut m ρ c 2 ∗ ackOut m ρ c 3 ∗ ackOut m ρ c 4)
    ∗ (ackIn m ρ c 5 ∗ ackIn m ρ c 6 ∗ ackIn m ρ c 7) ∗ all8 (slotEnd c))

set_option maxRecDepth 20000 in
set_option maxHeartbeats 4000000 in
theorem part24_wp (c : Dev nD) (f₀ : PartBuf F) (g₀ : (cc0_stg5_0 : Ref sig .tc).ty.Contents (Elt F)) (Q : (Σ' (_ : Dev nD), BitVec 32) → sProp 𝕄) :
    iprop((recs m ρ K ∗ levAts L lv) ∗ bodyIn m ρ c f₀ g₀)
      ⊢ iprop((midOut m ρ c f₀ -∗ Q ⟨c, wordOf c⟩)
        -∗ runs c (k0_part24 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3) Q) := by
  rw [k0_part24_eq_skeleton]; unfold k0_part24_skel bodyIn operands
  iintro ⟨⟨#HR, #HL⟩, HO, Hst, Hg, Hf, Hsig, ⟨Hcr, Hat⟩, Htok, Hrcv, Hsat⟩ Hk
  iapply (then_run (part1_wp m ρ K c)) $$ [HO Hsig Hcr Hat]
  · isplitr; · iexact HR
    isplitl [HO]; · iexact HO
    isplitl [Hsig]; · iexact Hsig
    isplitl [Hcr]; · iexact Hcr
    isplitl [Hat]; · iexact Hat
    iexact HL
  iintro ⟨HO, Hbar, Hslots⟩
  ihave Hsnd := (sndRes_intro c) $$ [Htok Hslots]
  · isplitl [Htok] <;> iassumption
  iapply (then_run (part2_wp c (wordOf c) (stQ m ρ c) (stK m ρ c) (stV m ρ c) (stT m ρ c) (stN m ρ c))) $$ Hst
  iintro Hst
  iapply (then_pure (part3_eq _ _))
  iapply (then_pure (part4_eq _ _))
  iapply (then_pure (part5_eq _ _))
  iapply (then_pure (part6_eq _ _))
  iapply (then_pure (part7_eq _ _))
  iapply (then_pure (part8_eq _ _))
  iapply (then_pure (part9_eq _ _))
  iapply (then_pure (part10_eq _ _))
  iapply (then_pure (part11_eq (wordOf c) (stT m ρ c) (stN m ρ c) (k0_pay1 (stQ m ρ c)) (k0_pay2 (stK m ρ c))))
  iapply (then_run (part12_wp c (k0_pay1 (stQ m ρ c)) (k0_pay2 (stK m ρ c)) (k0_pay3 (stV m ρ c)) (cntOf (wordOf c) (stT m ρ c) (stN m ρ c)) (mskOf (wordOf c) (stT m ρ c) (stN m ρ c)) _)) $$ Hf; iintro Hf
  iapply (then_run (part13_wp c (k0_pay1 (stQ m ρ c)) (k0_pay2 (stK m ρ c)) (k0_pay3 (stV m ρ c)) (cntOf (wordOf c) (stT m ρ c) (stN m ρ c)) (mskOf (wordOf c) (stT m ρ c) (stN m ρ c)) _)) $$ Hf; iintro Hf
  iapply (then_run (part14_wp c (k0_pay1 (stQ m ρ c)) (k0_pay2 (stK m ρ c)) (k0_pay3 (stV m ρ c)) (cntOf (wordOf c) (stT m ρ c) (stN m ρ c)) (mskOf (wordOf c) (stT m ρ c) (stN m ρ c)) _)) $$ Hf; iintro Hf
  iapply (then_run (part15_wp c (k0_pay1 (stQ m ρ c)) (k0_pay2 (stK m ρ c)) (k0_pay3 (stV m ρ c)) (cntOf (wordOf c) (stT m ρ c) (stN m ρ c)) (mskOf (wordOf c) (stT m ρ c) (stN m ρ c)) _)) $$ Hf; iintro Hf
  iapply (then_run (part16_wp c (k0_pay1 (stQ m ρ c)) (k0_pay2 (stK m ρ c)) (k0_pay3 (stV m ρ c)) (cntOf (wordOf c) (stT m ρ c) (stN m ρ c)) (mskOf (wordOf c) (stT m ρ c) (stN m ρ c)) _)) $$ Hf; iintro Hf
  iapply (then_run (part17_wp c (k0_pay1 (stQ m ρ c)) (k0_pay2 (stK m ρ c)) (k0_pay3 (stV m ρ c)) (cntOf (wordOf c) (stT m ρ c) (stN m ρ c)) (mskOf (wordOf c) (stT m ρ c) (stN m ρ c)) _)) $$ Hf; iintro Hf
  iapply (then_run (part18_wp m ρ K c (wordOf c) (k0_pay1 (stQ m ρ c)) (k0_pay2 (stK m ρ c)) (k0_pay3 (stV m ρ c)) (cntOf (wordOf c) (stT m ρ c) (stN m ρ c)) (mskOf (wordOf c) (stT m ρ c) (stN m ρ c)) _ f₀ rfl)) $$ [HO Hf Hsnd]
  · isplitr; · iexact HR
    isplitl [HO]; · iexact HO
    isplitl [Hf]; · iexact Hf
    iexact Hsnd
  iintro ⟨HO, Hs1, Hs2, Hkeep⟩
  unfold all8
  icases Hrcv with ⟨R0, R1, R2, R3, R4, R5, R6, R7⟩
  iapply (then_run (part19_wp m ρ K c f₀)) $$ [HO Hs2 R0 R1]
  · isplitr; · iexact HR
    isplitl [HO]; · iexact HO
    isplitl [Hs2]; · iexact Hs2
    isplitl [R0] <;> iassumption
  iintro ⟨HO, Hs2, R0, R1⟩
  unfold rcvOut
  icases R0 with ⟨E0, R0⟩
  ihave R0 := (slotHas_open m ρ c 0) $$ R0
  icases R0 with ⟨%y0, %h0, R0⟩
  iapply (then_run (part20_wp m ρ K c f₀ y0)) $$ [HO R2 R3 R4 R5 R6 R7 Hkeep R0]
  · isplitr; · iexact HR
    isplitl [HO]; · iexact HO
    isplitl [R2 R3 R4 R5 R6 R7]
    · isplitl [R2]; · iexact R2
      isplitl [R3]; · iexact R3
      isplitl [R4]; · iexact R4
      isplitl [R5]; · iexact R5
      isplitl [R6] <;> iassumption
    isplitl [Hkeep]
    · unfold all8; iexact Hkeep
    iexact R0
  unfold rcvOut
  iintro ⟨HO, ⟨⟨E2, R2⟩, ⟨E3, R3⟩, ⟨E4, R4⟩, ⟨E5, R5⟩, ⟨E6, R6⟩, ⟨E7, R7⟩⟩, Hkeep, R0⟩
  icases R1 with ⟨E1, R1⟩
  ihave R1 := (slotHas_open m ρ c 1) $$ R1
  icases R1 with ⟨%y1, %h1, R1⟩
  ihave R2 := (slotHas_open m ρ c 2) $$ R2
  icases R2 with ⟨%y2, %h2, R2⟩
  ihave R3 := (slotHas_open m ρ c 3) $$ R3
  icases R3 with ⟨%y3, %h3, R3⟩
  ihave R4 := (slotHas_open m ρ c 4) $$ R4
  icases R4 with ⟨%y4, %h4, R4⟩
  ihave R5 := (slotHas_open m ρ c 5) $$ R5
  icases R5 with ⟨%y5, %h5, R5⟩
  ihave R6 := (slotHas_open m ρ c 6) $$ R6
  icases R6 with ⟨%y6, %h6, R6⟩
  ihave R7 := (slotHas_open m ρ c 7) $$ R7
  icases R7 with ⟨%y7, %h7, R7⟩
  iapply (then_run (part21_wp c _ _ _ _ _ y1 y2 y3 y4)) $$ [R1 R2 R3 R4]
  · isplitl [R1]; · iexact R1
    isplitl [R2]; · iexact R2
    isplitl [R3] <;> iassumption
  iintro ⟨R1, R2, R3, R4⟩
  iapply (then_run (part22_wp c _ _ _ _ _ _ _ _ _ _ y5 y6 y7)) $$ [R5 R6 R7]
  · isplitl [R5]; · iexact R5
    isplitl [R6] <;> iassumption
  iintro ⟨R5, R6, R7⟩
  iapply (then_pure (part23_eq _ _ _ _ _ _ _ _ _ _ _ _ _ _ _ _ _ _ _ _ _ _ _ _ _ _ _ _))
  rw [result_eq]
  iapply (load_at (m := Memref.whole cc0_stg5_0) (r := Rect.unit (s := S8x1x8x64) ![0, 0, 0, 0] S8x1x8x64.size inb_S8x1x8x64_S8x1x8x64_0_0_0_0) (v := g₀)
    (Memref.readAt_unit_zero (Elt F) cc0_stg5_0 zero4 _ g₀)) $$ Hg; iintro Hg
  iapply store_out $$ Hg; iintro Hg
  icases Hs1 with ⟨S0, S1, S2⟩
  icases Hs2 with ⟨S3, S4, S5, S6, S7⟩
  ihave Hack := (ack_intro_all m ρ c f₀) $$ [Hsat S0 S1 S2 S3 S4 S5 S6 S7 Hkeep]
  · unfold all8
    isplitl [Hsat]; · iexact Hsat
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6] <;> iassumption
    iexact Hkeep
  unfold all8
  icases Hack with ⟨A0, A1, A2, A3, A4, A5, A6, A7⟩
  iapply (ack_step m ρ K (p := 0) (cond25_iff c) rfl) $$ [HO A0]
  · isplitr; · iexact HR
    isplitl [HO]; · iexact HO
    iexact A0
  iintro ⟨HO, A0⟩
  iapply (ack_step m ρ K (p := 1) (cond26_iff c) rfl) $$ [HO A1]
  · isplitr; · iexact HR
    isplitl [HO]; · iexact HO
    iexact A1
  iintro ⟨HO, A1⟩
  iapply (ack_step m ρ K (p := 2) (cond27_iff c) rfl) $$ [HO A2]
  · isplitr; · iexact HR
    isplitl [HO]; · iexact HO
    iexact A2
  iintro ⟨HO, A2⟩
  iapply (ack_step m ρ K (p := 3) (cond28_iff c) rfl) $$ [HO A3]
  · isplitr; · iexact HR
    isplitl [HO]; · iexact HO
    iexact A3
  iintro ⟨HO, A3⟩
  iapply (ack_step m ρ K (p := 4) (cond29_iff c) rfl) $$ [HO A4]
  · isplitr; · iexact HR
    isplitl [HO]; · iexact HO
    iexact A4
  iintro ⟨HO, A4⟩
  rw [runs, wp_pure]
  imodintro
  iapply Hk
  unfold midOut operands all8
  isplitl [HO]; · iexact HO
  isplitl [Hst]; · iexact Hst
  isplitl [Hg]
  · iexists ![y0, y1, y2, y3, y4, y5, y6, y7]
    isplitr
    · ipureintro
      intro p
      fin_cases p
      · exact h0
      · exact h1
      · exact h2
      · exact h3
      · exact h4
      · exact h5
      · exact h6
      · exact h7
    iexact Hg
  isplitl [Hbar]; · iexact Hbar
  isplitl [A0 A1 A2 A3 A4]
  · isplitl [A0]; · iexact A0
    isplitl [A1]; · iexact A1
    isplitl [A2]; · iexact A2
    isplitl [A3] <;> iassumption
  isplitl [A5 A6 A7]
  · isplitl [A5]; · iexact A5
    isplitl [A6] <;> iassumption
  isplitl [E0 R0]
  · iapply (slotEnd_intro c 0 y0); isplitl [E0] <;> iassumption
  isplitl [E1 R1]
  · iapply (slotEnd_intro c 1 y1); isplitl [E1] <;> iassumption
  isplitl [E2 R2]
  · iapply (slotEnd_intro c 2 y2); isplitl [E2] <;> iassumption
  isplitl [E3 R3]
  · iapply (slotEnd_intro c 3 y3); isplitl [E3] <;> iassumption
  isplitl [E4 R4]
  · iapply (slotEnd_intro c 4 y4); isplitl [E4] <;> iassumption
  isplitl [E5 R5]
  · iapply (slotEnd_intro c 5 y5); isplitl [E5] <;> iassumption
  isplitl [E6 R6]
  · iapply (slotEnd_intro c 6 y6); isplitl [E6] <;> iassumption
  iapply (slotEnd_intro c 7 y7); isplitl [E7] <;> iassumption

/-! ## The whole body -/

set_option maxRecDepth 20000 in
set_option maxHeartbeats 4000000 in
theorem body_wp (c : Dev nD) (f₀ : PartBuf F) (g₀ : (cc0_stg5_0 : Ref sig .tc).ty.Contents (Elt F)) (Q : PUnit → sProp 𝕄) :
    iprop((recs m ρ K ∗ levAts L lv) ∗ bodyIn m ρ c f₀ g₀)
      ⊢ iprop((bodyOut m ρ c f₀ -∗ Q ⟨⟩)
        -∗ runs c (cc0_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3) Q) := by
  rw [cc0_body_eq_skeleton]; unfold cc0_body_skel
  iintro ⟨⟨#HR, #HL⟩, Hin⟩ Hk
  iapply (then_run (part24_wp m ρ K c f₀ g₀)) $$ [Hin]
  · isplitr
    · isplitr; · iexact HR
      iexact HL
    iexact Hin
  unfold midOut
  iintro ⟨HO, Hst, Hg, Hbar, ⟨A0, A1, A2, A3, A4⟩, ⟨A5, A6, A7⟩, Hs⟩
  iapply (ack_step m ρ K (p := 5) (cond30_iff c) rfl) $$ [HO A5]
  · isplitr; · iexact HR
    isplitl [HO]; · iexact HO
    iexact A5
  iintro ⟨HO, A5⟩
  iapply (ack_step m ρ K (p := 6) (cond31_iff c) rfl) $$ [HO A6]
  · isplitr; · iexact HR
    isplitl [HO]; · iexact HO
    iexact A6
  iintro ⟨HO, A6⟩
  iapply (ack_step m ρ K (p := 7) (cond32_iff c) rfl) $$ [HO A7]
  · isplitr; · iexact HR
    isplitl [HO]; · iexact HO
    iexact A7
  iintro ⟨HO, A7⟩
  rw [runs, wp_pure]
  imodintro
  iapply Hk
  unfold bodyOut
  isplitl [HO]; · iexact HO
  isplitl [Hst]; · iexact Hst
  isplitl [Hg]; · iexact Hg
  isplitl [Hbar]; · iexact Hbar
  isplitr [Hs]
  · unfold all8
    isplitl [A0]; · iexact A0
    isplitl [A1]; · iexact A1
    isplitl [A2]; · iexact A2
    isplitl [A3]; · iexact A3
    isplitl [A4]; · iexact A4
    isplitl [A5]; · iexact A5
    isplitl [A6] <;> iassumption
  iexact Hs

end Cert.PagedProof

end
-- ==== Proof.Lanes.lean ====
/-
# The lanes of the partial buffer

Every element that the combination reads from a partial buffer is one that a head wrote: lanes 0..63 hold the
weighted values, lane 64 the largest score, lane 65 the sum of weights. So the result does not depend on what
the buffer held before.
-/
module

public import proofs.«01_k».proof.Proof.Body
public import Idealize.ShloMosaic.Lib.Pointwise
public import Idealize.ShloMosaic.Lib.Writes

@[expose] public section

noncomputable section

namespace Cert.PagedProof

open Cert.KernelIdeal Cert.KernelIdeal.Gen

open Idealize.ShloMosaic
open Idealize.ShloMosaic.TcCoe
open Idealize.SL.Sem

variable {F : FTy → Type} [FloatOps F]

/-! ## One write, read at an element -/

theorem put_hit (r : Rect S8x8x128) (w : FVec F r.shape .f32) (f : PartBuf F) (x : r.shape.Idx) (y : S8x8x128.Idx)
    (h : ∀ a, (y a).val = r.off a + r.stride a * (x a).val) : put r w f y = w x := by
  have e : r.emb x = y := Rect.emb_eq_of_coords r x y h
  subst e
  exact View.write_emb_of_mem (v := pM.access r) (Val := Elt F) f w (Finset.mem_univ x)

theorem put_miss (r : Rect S8x8x128) (w : FVec F r.shape .f32) (f : PartBuf F) (y : S8x8x128.Idx) (h : y ∉ r.set) :
    put r w f y = f y := by
  refine View.write_of_not_mem (v := pM.access r) (Val := Elt F) f w Finset.univ fun hy => h ?_
  obtain ⟨x, -, e⟩ := Finset.mem_map.mp hy
  rw [← Rect.map_emb_univ]
  exact Finset.mem_map.mpr ⟨x, Finset.mem_univ _, e⟩

section Heads

variable (q : FVec F S8x8x64 .bf16) (k v : FVec F S1024x8x64 .bf16) (cnt : FVec F S8x1024 .f32) (msk : IVec S8x1024 1)

theorem miss_row {o : Fin 3 → ℕ} {n : Fin 3 → ℕ} (inb) (h : Fin 8) (ho : o 1 = h.val) (hn : n 1 = 1) (y : S8x8x128.Idx) (hy : (y 1).val ≠ h.val) :
    y ∉ (Rect.unit (s := S8x8x128) o n inb).set :=
  Rect.not_mem_set_of_axis _ y (1 : Fin 3) h.val 1 ho rfl hn (by omega)

/-- Another head's writes leave an element alone. -/
theorem stepH_miss (h : Fin 8) (f : PartBuf F) (y : S8x8x128.Idx) (hy : (y 1).val ≠ h.val) :
    stepH h q k v cnt msk f y = f y := by
  unfold stepH
  rw [put_miss (rL h) _ _ y (miss_row (inL h) h rfl rfl y hy), put_miss (rM h) _ _ y (miss_row (inM h) h rfl rfl y hy),
    put_miss (rO h) _ _ y (miss_row (inO h) h rfl rfl y hy)]

theorem stepH_O (h : Fin 8) (f : PartBuf F) (b : Fin 8) (d : Fin 64) :
    stepH h q k v cnt msk f (ix3 b h ⟨d.val, by omega⟩) = oH h v (eH cnt msk (scH h q k)) (ix2 b d) := by
  unfold stepH
  rw [put_miss (rL h) _ _ _ (Rect.not_mem_set_of_axis _ _ (2 : Fin 3) 65 1 rfl rfl rfl (Or.inl (by show d.val < 65; omega))),
    put_miss (rM h) _ _ _ (Rect.not_mem_set_of_axis _ _ (2 : Fin 3) 64 1 rfl rfl rfl (Or.inl (by show d.val < 64; omega))),
    put_hit (rO h) _ _ (ix3 b (0 : Fin 1) d) _ (fun a => by
      match a with
      | ⟨0, _⟩ => show b.val = 0 + 1 * b.val; omega
      | ⟨1, _⟩ => show h.val = h.val + 1 * 0; omega
      | ⟨2, _⟩ => show d.val = 0 + 1 * d.val; omega)]
  generalize oH h v (eH cnt msk (scH h q k)) = z
  pointwise

theorem stepH_M (h : Fin 8) (f : PartBuf F) (b : Fin 8) :
    stepH h q k v cnt msk f (ix3 b h (64 : Fin 128)) = mH msk (scH h q k) (ix2 b 0) := by
  unfold stepH
  rw [put_miss (rL h) _ _ _ (Rect.not_mem_set_of_axis _ _ (2 : Fin 3) 65 1 rfl rfl rfl (Or.inl (by show 64 < 65; omega))),
    put_hit (rM h) _ _ (ix3 b (0 : Fin 1) (0 : Fin 1)) _ (fun a => by
      match a with
      | ⟨0, _⟩ => show b.val = 0 + 1 * b.val; omega
      | ⟨1, _⟩ => show h.val = h.val + 1 * 0; omega
      | ⟨2, _⟩ => show 64 = 64 + 1 * 0; omega)]
  generalize mH msk (scH h q k) = z
  pointwise

theorem stepH_L (h : Fin 8) (f : PartBuf F) (b : Fin 8) :
    stepH h q k v cnt msk f (ix3 b h (65 : Fin 128)) = lH (eH cnt msk (scH h q k)) (ix2 b 0) := by
  unfold stepH
  rw [put_hit (rL h) _ _ (ix3 b (0 : Fin 1) (0 : Fin 1)) _ (fun a => by
      match a with
      | ⟨0, _⟩ => show b.val = 0 + 1 * b.val; omega
      | ⟨1, _⟩ => show h.val = h.val + 1 * 0; omega
      | ⟨2, _⟩ => show 65 = 65 + 1 * 0; omega)]
  generalize lH (eH cnt msk (scH h q k)) = z
  pointwise

/-- After all the heads an element in row `h` is what head `h` left. -/
theorem partOf_row (f : PartBuf F) (b h : Fin 8) (d : Fin 128) :
    ∃ g : PartBuf F, partOf q k v cnt msk f (ix3 b h d) = stepH h q k v cnt msk g (ix3 b h d) := by
  unfold partOf
  have miss (h' : Fin 8) (hh : h.val ≠ h'.val) (g : PartBuf F) : stepH h' q k v cnt msk g (ix3 b h d) = g (ix3 b h d) :=
    stepH_miss q k v cnt msk h' g _ hh
  match h, miss with
  | ⟨0, _⟩, miss => exact ⟨_, by rw [miss 7 (show (0 : ℕ) ≠ 7 by decide), miss 6 (show (0 : ℕ) ≠ 6 by decide), miss 5 (show (0 : ℕ) ≠ 5 by decide), miss 4 (show (0 : ℕ) ≠ 4 by decide), miss 3 (show (0 : ℕ) ≠ 3 by decide), miss 2 (show (0 : ℕ) ≠ 2 by decide), miss 1 (show (0 : ℕ) ≠ 1 by decide)]; rfl⟩
  | ⟨1, _⟩, miss => exact ⟨_, by rw [miss 7 (show (1 : ℕ) ≠ 7 by decide), miss 6 (show (1 : ℕ) ≠ 6 by decide), miss 5 (show (1 : ℕ) ≠ 5 by decide), miss 4 (show (1 : ℕ) ≠ 4 by decide), miss 3 (show (1 : ℕ) ≠ 3 by decide), miss 2 (show (1 : ℕ) ≠ 2 by decide)]; rfl⟩
  | ⟨2, _⟩, miss => exact ⟨_, by rw [miss 7 (show (2 : ℕ) ≠ 7 by decide), miss 6 (show (2 : ℕ) ≠ 6 by decide), miss 5 (show (2 : ℕ) ≠ 5 by decide), miss 4 (show (2 : ℕ) ≠ 4 by decide), miss 3 (show (2 : ℕ) ≠ 3 by decide)]; rfl⟩
  | ⟨3, _⟩, miss => exact ⟨_, by rw [miss 7 (show (3 : ℕ) ≠ 7 by decide), miss 6 (show (3 : ℕ) ≠ 6 by decide), miss 5 (show (3 : ℕ) ≠ 5 by decide), miss 4 (show (3 : ℕ) ≠ 4 by decide)]; rfl⟩
  | ⟨4, _⟩, miss => exact ⟨_, by rw [miss 7 (show (4 : ℕ) ≠ 7 by decide), miss 6 (show (4 : ℕ) ≠ 6 by decide), miss 5 (show (4 : ℕ) ≠ 5 by decide)]; rfl⟩
  | ⟨5, _⟩, miss => exact ⟨_, by rw [miss 7 (show (5 : ℕ) ≠ 7 by decide), miss 6 (show (5 : ℕ) ≠ 6 by decide)]; rfl⟩
  | ⟨6, _⟩, miss => exact ⟨_, by rw [miss 7 (show (6 : ℕ) ≠ 7 by decide)]; rfl⟩
  | ⟨7, _⟩, miss => exact ⟨_, rfl⟩

theorem laneO_partOf (f : PartBuf F) (b h : Fin 8) (d : Fin 64) :
    laneO (partOf q k v cnt msk f) (ix3 b h d) = oH h v (eH cnt msk (scH h q k)) (ix2 b d) := by
  obtain ⟨g, hg⟩ := partOf_row q k v cnt msk f b h ⟨d.val, by omega⟩
  have e : laneO (partOf q k v cnt msk f) (ix3 b h d) = partOf q k v cnt msk f (ix3 b h ⟨d.val, by omega⟩) := by
    unfold laneO
    generalize partOf q k v cnt msk f = z
    pointwise
  rw [e, hg, stepH_O]

theorem laneM_partOf (f : PartBuf F) (b h : Fin 8) :
    laneM (partOf q k v cnt msk f) (ix3 b h 0) = mH msk (scH h q k) (ix2 b 0) := by
  obtain ⟨g, hg⟩ := partOf_row q k v cnt msk f b h 64
  have e : laneM (partOf q k v cnt msk f) (ix3 b h 0) = partOf q k v cnt msk f (ix3 b h 64) := by
    unfold laneM
    generalize partOf q k v cnt msk f = z
    pointwise
  rw [e, hg, stepH_M]

theorem laneL_partOf (f : PartBuf F) (b h : Fin 8) :
    laneL (partOf q k v cnt msk f) (ix3 b h 0) = lH (eH cnt msk (scH h q k)) (ix2 b 0) := by
  obtain ⟨g, hg⟩ := partOf_row q k v cnt msk f b h 65
  have e : laneL (partOf q k v cnt msk f) (ix3 b h 0) = partOf q k v cnt msk f (ix3 b h 65) := by
    unfold laneL
    generalize partOf q k v cnt msk f = z
    pointwise
  rw [e, hg, stepH_L]

theorem laneO_free (f g : PartBuf F) : laneO (partOf q k v cnt msk f) = laneO (partOf q k v cnt msk g) :=
  funext fun j => by rw [eq_ix3 j]; exact (laneO_partOf q k v cnt msk f _ _ _).trans (laneO_partOf q k v cnt msk g _ _ _).symm

theorem laneM_free (f g : PartBuf F) : laneM (partOf q k v cnt msk f) = laneM (partOf q k v cnt msk g) :=
  funext fun j => by
    have e : j = ix3 (j 0) (j 1) 0 := by rw [eq_ix3 j]; exact (ix3_inj ..).mpr ⟨rfl, rfl, Subsingleton.elim (α := Fin 1) _ _⟩
    rw [e]; exact (laneM_partOf q k v cnt msk f _ _).trans (laneM_partOf q k v cnt msk g _ _).symm

theorem laneL_free (f g : PartBuf F) : laneL (partOf q k v cnt msk f) = laneL (partOf q k v cnt msk g) :=
  funext fun j => by
    have e : j = ix3 (j 0) (j 1) 0 := by rw [eq_ix3 j]; exact (ix3_inj ..).mpr ⟨rfl, rfl, Subsingleton.elim (α := Fin 1) _ _⟩
    rw [e]; exact (laneL_partOf q k v cnt msk f _ _).trans (laneL_partOf q k v cnt msk g _ _).symm

end Heads

/-! ## The result of a device -/

theorem pick_own {α : Type} (c : Dev nD) (x y : α) : pick (wordOf c) (BitVec.ofNat 32 c.val) x y = x := by
  unfold pick Scalar.select
  rw [if_pos]; revert c; decide

theorem pick_other {α : Type} {c p : Dev nD} (h : p ≠ c) (x y : α) : pick (wordOf c) (BitVec.ofNat 32 p.val) x y = y := by
  unfold pick Scalar.select
  rw [if_neg]; revert c p; decide

variable (m : (ℓ : Loc nD τ sig) → Buf (Elt F) ℓ) (ρ : Dev nD → PrngReg)

/-- Contents to start a partial buffer from; the result does not depend on them. -/
def zeroBuf : PartBuf F := fun _ => Scalar.ofBits .f32 0x00000000#32

/-- The combination of all the devices' partial results. -/
def outAt : FVec F S8x1x8x64 .f32 :=
  combine (fun p => laneO (partW m ρ p zeroBuf)) (fun p => laneM (partW m ρ p zeroBuf)) (fun p => laneL (partW m ρ p zeroBuf))

/-- What a device computes is that combination. -/
theorem resAt_eq (c : Dev nD) (f₀ : PartBuf F) (y : Fin 8 → FVec F S1x8x8x128 .f32) (hy : Landed m ρ c y) :
    resAt m ρ c f₀ y = outAt m ρ := by
  have key {α : Type} (lane : FVec F S8x8x128 .f32 → α) (hl : ∀ (p : Dev nD) (f g : PartBuf F), lane (partW m ρ p f) = lane (partW m ρ p g)) :
      (fun p : Fin 8 => pick (wordOf c) (BitVec.ofNat 32 p.val) (lane (partW m ρ c f₀)) (lane (asPart (y p))))
        = fun p => lane (partW m ρ p zeroBuf) := funext fun p => by
    by_cases h : p = c
    · subst h; rw [pick_own]; exact hl _ _ _
    · rw [pick_other h]
      obtain ⟨f, hf⟩ := hy p h
      rw [hf]; exact hl _ _ _
  unfold resAt resultOf outAt
  rw [key laneO fun p f g => laneO_free _ _ _ _ _ f g, key laneM fun p f g => laneM_free _ _ _ _ _ f g,
    key laneL fun p f g => laneL_free _ _ _ _ _ f g]

end Cert.PagedProof

end
-- ==== Proof.Deal.lean ====
/-
# Dealing out the exchange's resources

What the launch holds of the exchange at the start, and how it is dealt to the devices: the landing buffer cut into
slots, the cells of every device with their invariants, the duties handed to the devices that do them, and the credits
every device waits with. At the end the shares and slots of a device's buffers are joined again.
-/
module

public import proofs.«01_k».proof.Proof.Lanes
public import Idealize.ShloMosaic.Lib.Ring

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem to_emp (P : sProp 𝕄) : P ⊢ (iprop(emp) : sProp 𝕄) := by
  iintro -
  iempintro

/-! ## The landing buffer and its slots -/

theorem mem_slot (p : Dev nD) (i : (cc0_scratch1 : Ref sig .tc).ty.shape.Idx) :
    i ∈ (slotM p).view.set ↔ ((i : S8x8x8x128.Idx) 0).val = p.val := by
  rw [slot_set, View.set_slice]
  have e : (rSlot p).set.map (bM : Memref sig .tc .vmem S8x8x8x128 .f32).view.emb = (rSlot p).set := by
    ext j
    exact ⟨fun h => by obtain ⟨x, hx, e⟩ := Finset.mem_map.mp h; exact e ▸ hx, fun h => Finset.mem_map.mpr ⟨j, h, rfl⟩⟩
  rw [e]
  refine Rect.mem_set_unit.trans ⟨fun h => ?_, fun h a => ?_⟩
  · have h0 := h (0 : Fin 4)
    have h1 : p.val ≤ ((i : S8x8x8x128.Idx) 0).val ∧ ((i : S8x8x8x128.Idx) 0).val < p.val + 1 := h0
    omega
  · match a with
    | ⟨0, _⟩ => show p.val ≤ ((i : S8x8x8x128.Idx) 0).val ∧ ((i : S8x8x8x128.Idx) 0).val < p.val + 1; omega
    | ⟨1, _⟩ => exact ⟨Nat.zero_le _, by show _ < 0 + 8; rw [Nat.zero_add]; exact ((i : S8x8x8x128.Idx) 1).isLt⟩
    | ⟨2, _⟩ => exact ⟨Nat.zero_le _, by show _ < 0 + 8; rw [Nat.zero_add]; exact ((i : S8x8x8x128.Idx) 2).isLt⟩
    | ⟨3, _⟩ => exact ⟨Nat.zero_le _, by show _ < 0 + 128; rw [Nat.zero_add]; exact ((i : S8x8x8x128.Idx) 3).isLt⟩

/-- The landing buffer of device `c`, whole, at some contents. -/
def landAny (c : Dev nD) : sProp 𝕄 :=
  iprop(∃ f : Buf (Elt F) ((c : Thread nD τ).loc cc0_scratch1), ((c : Thread nD τ).loc cc0_scratch1) ↦{fullShare} f)
/-- The partial buffer of device `c`, whole, at some contents. -/
def partAny (c : Dev nD) : sProp 𝕄 :=
  iprop(∃ f : Buf (Elt F) ((c : Thread nD τ).loc cc0_scratch0), ((c : Thread nD τ).loc cc0_scratch0) ↦{fullShare} f)

/-- The elements of slot `p`. -/
abbrev slotSet (p : Dev nD) : Finset (cc0_scratch1 : Ref sig .tc).ty.shape.Idx := (slotM p).view.set

theorem slots_disjoint (p p' : Dev nD) (h : p ≠ p') : Disjoint (slotSet p) (slotSet p') :=
  Finset.disjoint_left.mpr fun i h1 h2 => h (Fin.ext (((mem_slot p i).mp h1).symm.trans ((mem_slot p' i).mp h2)))
theorem slots_cover : Finset.univ.biUnion (fun p : Dev nD => slotSet p) = Finset.univ :=
  Finset.eq_univ_iff_forall.mpr fun i =>
    Finset.mem_biUnion.mpr ⟨((i : S8x8x8x128.Idx) 0), Finset.mem_univ _, (mem_slot _ i).mpr rfl⟩

theorem slotAny_of (c p : Dev nD) (f : Buf (Elt F) ((c : Thread nD τ).loc cc0_scratch1)) :
    (iprop(((c : Thread nD τ).loc cc0_scratch1) ↦[slotSet p]{fullShare} f) : sProp 𝕄) ⊢ slotAny c p := by
  unfold slotAny
  iintro H
  iexists f
  iexact H

theorem land_split (c : Dev nD) : landAny (F := F) c ⊢ all8 (slotAny (F := F) c) := by
  rw [← all8_eq]
  unfold landAny
  iintro ⟨%f, H⟩
  have h : (((c : Thread nD τ).loc cc0_scratch1) ↦{fullShare} f : sProp 𝕄) ⊢ bigSep Finset.univ (slotAny (F := F) c) := by
    rw [Ring.pointsTo_blocks (ℓ := (c : Thread nD τ).loc cc0_scratch1) (fun p : Dev nD => slotSet p) slots_disjoint slots_cover f]
    exact bigSep_mono fun p _ => slotAny_of c p f
  iapply h; iexact H

theorem land_join (c : Dev nD) : all8 (slotAny (F := F) c) ⊢ landAny (F := F) c := by
  rw [← all8_eq]
  exact Ring.pointsTo_blocks_join_exists (ℓ := (c : Thread nD τ).loc cc0_scratch1) (fun p : Dev nD => slotSet p) slots_disjoint slots_cover
    (fun _ => (Scalar.ofBits .f32 0x00000000#32 : F .f32))

/-! ## The shares of the partial buffer -/

/-- The leaves of a share, each at contents of its own, are the share at some contents. -/
theorem leaves_join {ℓ : Loc nD τ sig} (I : Finset (Idx ℓ)) : ∀ (n : ℕ) (q : PosShare TreeShare),
    bigSep Finset.univ (fun i : Fin (2 ^ n) => iprop(∃ f : Buf (Elt F) ℓ, ℓ ↦[I]{ShareLeaves.leaf n q i} f))
      ⊢ (iprop(∃ f : Buf (Elt F) ℓ, ℓ ↦[I]{q} f) : sProp 𝕄)
  | 0, q => by
    refine Entails.of_eq ?_
    exact bigSep_univ_of_subsingleton (0 : Fin 1) (Φ := fun i : Fin (2 ^ 0) => (iprop(∃ f : Buf (Elt F) ℓ, ℓ ↦[I]{ShareLeaves.leaf 0 q i} f) : sProp 𝕄))
  | n + 1, q => by
    rw [bigSep_univ_equiv (ShareLeaves.sumEquiv n), bigSep_univ_sum]
    have hl := leaves_join I n q.left
    have hr := leaves_join I n q.right
    have e1 : (fun i : Fin (2 ^ n) => (iprop(∃ f : Buf (Elt F) ℓ, ℓ ↦[I]{ShareLeaves.leaf (n + 1) q (ShareLeaves.sumEquiv n (Sum.inl i))} f) : sProp 𝕄))
        = fun i => iprop(∃ f : Buf (Elt F) ℓ, ℓ ↦[I]{ShareLeaves.leaf n q.left i} f) := funext fun i => by rw [ShareLeaves.leaf_inl]
    have e2 : (fun i : Fin (2 ^ n) => (iprop(∃ f : Buf (Elt F) ℓ, ℓ ↦[I]{ShareLeaves.leaf (n + 1) q (ShareLeaves.sumEquiv n (Sum.inr i))} f) : sProp 𝕄))
        = fun i => iprop(∃ f : Buf (Elt F) ℓ, ℓ ↦[I]{ShareLeaves.leaf n q.right i} f) := funext fun i => by rw [ShareLeaves.leaf_inr]
    rw [e1, e2]
    have hag (f g : Buf (Elt F) ℓ) : iprop((ℓ ↦[I]{q.left} f) ∗ ℓ ↦[I]{q.right} g) ⊢ (iprop(ℓ ↦[I]{q} f) : sProp 𝕄) := by
      refine Laws.pure_elim _ pointsTo_agree fun h => ?_
      rw [← pointsTo_congr (q := q.right) (f := f) (g := g) (I := I) fun i hi => (h i (Finset.mem_inter.mpr ⟨hi, hi⟩)).1]
      exact (pointsTo_share (PosShare.mem_left_op_right q)).2
    have fin : iprop((∃ f : Buf (Elt F) ℓ, ℓ ↦[I]{q.left} f) ∗ ∃ f : Buf (Elt F) ℓ, ℓ ↦[I]{q.right} f)
        ⊢ (iprop(∃ f : Buf (Elt F) ℓ, ℓ ↦[I]{q} f) : sProp 𝕄) := by
      iintro ⟨⟨%f, Hf⟩, ⟨%g, Hg⟩⟩
      iexists f
      iapply (hag f g)
      isplitl [Hf] <;> iassumption
    exact (BI.sep_mono hl hr).trans fin

theorem part_join (c : Dev nD) : all8 (partShare m ρ c) ⊢ partAny (F := F) c := by
  rw [← all8_eq]
  refine (bigSep_mono fun p _ => show _ ⊢ iprop(∃ f : Buf (Elt F) ((c : Thread nD τ).loc cc0_scratch0),
    ((c : Thread nD τ).loc cc0_scratch0) ↦[Finset.univ]{ShareLeaves.leaf 3 fullShare p} f) from ?_).trans (leaves_join (F := F) Finset.univ 3 fullShare)
  unfold partShare
  iintro ⟨%f, H⟩
  iexists partW m ρ c f
  rw [show pM.view.set = Finset.univ from View.set_whole _]
  iexact H

/-! ## The cells -/

theorem ownSemFacts : Pipeline.OwnSemFacts cfg0.spec osem := by decide

theorem csem_injective : Function.Injective csem := by
  intro k k' h
  have hs (p p' : Dev nD) (e : (SemLoc.dma (sendS p) : SemLoc sig) = .dma (sendS p')) : p = p' := Fin.ext (by
    have := congrArg numOfSem e; rw [numOfSem_send, numOfSem_send] at this; omega)
  have hr (p p' : Dev nD) (e : (SemLoc.dma (recvS p) : SemLoc sig) = .dma (recvS p')) : p = p' := Fin.ext (by
    have := congrArg numOfSem e; rw [numOfSem_recv, numOfSem_recv] at this; omega)
  have hsr (p p' : Dev nD) (e : (SemLoc.dma (sendS p) : SemLoc sig) = .dma (recvS p')) : False := by
    have := congrArg numOfSem e; rw [numOfSem_send, numOfSem_recv] at this
    have := p.isLt; have : nD = 8 := rfl; omega
  match k, k', h with
  | .inl _, .inl _, _ => rfl
  | .inl _, .inr (.inl p), h => cases h
  | .inl _, .inr (.inr p), h => cases h
  | .inr (.inl p), .inl _, h => cases h
  | .inr (.inr p), .inl _, h => cases h
  | .inr (.inl p), .inr (.inl p'), h => rw [hs p p' h]
  | .inr (.inr p), .inr (.inr p'), h => rw [hr p p' h]
  | .inr (.inl p), .inr (.inr p'), h => exact (hsr p p' h).elim
  | .inr (.inr p), .inr (.inl p'), h => exact (hsr p' p h.symm).elim

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The duties of one device's cells. Its barrier has one for each device; each of its other cells has one. -/
abbrev TI : Type := Dev nD ⊕ (Dev nD ⊕ Dev nD)

def tokOf (x : Dev nD × TI) : GSem nD τ sig × ℕ × Dev nD := match x.2 with
  | .inl d => (barCell x.1, 0, d)
  | .inr (.inl p) => (sendCell x.1 p, 0, 0)
  | .inr (.inr p) => (recvCell x.1 p, 0, 0)

theorem tokOf_injective : Function.Injective tokOf := by
  rintro ⟨c, k⟩ ⟨c', k'⟩ h
  have key (a b : Dev nD × CI) (e : kcell a = kcell b) : a = b := kcell_injective e
  match k, k', h with
  | .inl d, .inl d', h =>
    have h1 := key (c, .inl ()) (c', .inl ()) (congrArg Prod.fst h)
    have h2 : d = d' := congrArg (fun x : GSem nD τ sig × ℕ × Dev nD => x.2.2) h
    cases h1; rw [h2]
  | .inl d, .inr (.inl p), h => cases key (c, .inl ()) (c', .inr (.inl p)) (congrArg Prod.fst h)
  | .inl d, .inr (.inr p), h => cases key (c, .inl ()) (c', .inr (.inr p)) (congrArg Prod.fst h)
  | .inr (.inl p), .inl d, h => cases key (c, .inr (.inl p)) (c', .inl ()) (congrArg Prod.fst h)
  | .inr (.inr p), .inl d, h => cases key (c, .inr (.inr p)) (c', .inl ()) (congrArg Prod.fst h)
  | .inr (.inl p), .inr (.inl p'), h => cases key (c, .inr (.inl p)) (c', .inr (.inl p')) (congrArg Prod.fst h); rfl
  | .inr (.inr p), .inr (.inr p'), h => cases key (c, .inr (.inr p)) (c', .inr (.inr p')) (congrArg Prod.fst h); rfl
  | .inr (.inl p), .inr (.inr p'), h => cases key (c, .inr (.inl p)) (c', .inr (.inr p')) (congrArg Prod.fst h)
  | .inr (.inr p), .inr (.inl p'), h => cases key (c, .inr (.inr p)) (c', .inr (.inl p')) (congrArg Prod.fst h)

def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The duties of device `c`'s own cells. -/
def toks (c : Dev nD) : sProp 𝕄 :=
  iprop(bigSep Finset.univ (fun d : Dev nD => dutyTok ER (barCell c) 0 d)
    ∗ bigSep Finset.univ (fun p : Dev nD => dutyTok ER (sendCell c p) 0 0) ∗ bigSep Finset.univ (fun p : Dev nD => dutyTok ER (recvCell c p) 0 0))

/-- The duties device `c` does: its signal to every barrier, its own copies' ends, its copies' arrivals. -/
def payToks (c : Dev nD) : sProp 𝕄 :=
  iprop(bigSep Finset.univ (fun p : Dev nD => dutyTok ER (barCell p) 0 c)
    ∗ bigSep Finset.univ (fun p : Dev nD => dutyTok ER (sendCell c p) 0 0) ∗ bigSep Finset.univ (fun p : Dev nD => dutyTok ER (recvCell p c) 0 0))

/-- The positions of device `c` at its cells. -/
def posns (c : Dev nD) : sProp 𝕄 := bigSep Finset.univ (fun k : CI => atPos ER (kcell (c, k)) 0 ∅ 0)

/-- What the launch element deals device `c`. -/
def G (c : Dev nD) : sProp 𝕄 :=
  iprop((bigSep Finset.univ fun k : CI => roundState ER (pagedRd m ρ) (kcell (c, k)) 0)
    ∗ (posns c ∗ bigSep Finset.univ fun k : CI => reached ER (kcell (c, k)) 0) ∗ toks c)

/-- What device `c` starts the exchange from. -/
def G' (c : Dev nD) : sProp 𝕄 := iprop(∃ K, recs m ρ K ∗ posns c ∗ payToks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (pagedRd m ρ) allCells allToks) $$ HX with ⟨Hst, Hr, Hat, Htok⟩
  imodintro
  ihave Hst' := (Entails.of_eq (hX fun g => roundState ER (pagedRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hat' Hr']
  · isplitl [Hat'] <;> iassumption
  iexact Htok'

theorem osem_send (p : Dev nD) : osem (finSumFinEquiv (Sum.inl p : Fin 8 ⊕ Fin 8)) = .dma (sendS p) := by revert p; decide
theorem osem_recv (p : Dev nD) : osem (finSumFinEquiv (Sum.inr p : Fin 8 ⊕ Fin 8)) = .dma (recvS p) := by revert p; decide

/-- The kernel's own semaphores are the send cells and the receive cells. -/
theorem ownSems0_eq (c : Dev nD) : (Pipeline.ownSems0 (Ix := Unit) (Name := ℕ) (U := UU) (Lvl := ℕ) (Val := Elt F) (τ := τ) osem c : sProp 𝕄)
    = iprop(bigSep Finset.univ (fun p : Dev nD => semVal (sendCell c p) 0) ∗ bigSep Finset.univ (fun p : Dev nD => semVal (recvCell c p) 0)) := by
  unfold Pipeline.ownSems0
  rw [bigSep_univ_equiv (finSumFinEquiv (m := 8) (n := 8)), bigSep_univ_sum]
  simp only [osem_send, osem_recv]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem ci_split (Φ : CI → sProp 𝕄) : bigSep Finset.univ Φ
    = iprop(Φ (.inl ()) ∗ bigSep Finset.univ (fun p : Dev nD => Φ (.inr (.inl p))) ∗ bigSep Finset.univ (fun p : Dev nD => Φ (.inr (.inr p)))) := by
  rw [bigSep_univ_sum, bigSep_univ_sum, bigSep_univ_of_subsingleton ()]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, ci_split]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (pagedRd m ρ) κ (kcell (c, k))))
          ∗ (posns c ∗ bigSep Finset.univ fun k : CI => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (pagedRd m ρ) (kcell (c, k)) 0)
      ⊢ (|={Set.univ}=> bigSep Finset.univ fun k : CI => iprop(∃ κ : ℕ, cellInv ER (pagedRd m ρ) κ (kcell (c, k))) : sProp 𝕄) from by
        rw [← bigSep_sep']
        exact (bigSep_mono fun k _ => (Rounds.body_intro ER (pagedRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties go to the devices that do them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun c d : Dev nD => (dutyTok ER (barCell c) 0 d : sProp 𝕄)),
    bigSep_univ_comm (fun c p : Dev nD => (dutyTok ER (recvCell c p) 0 0 : sProp 𝕄))]

theorem regroup :
    (bigSep Finset.univ fun c : Dev nD => iprop((bigSep Finset.univ fun k : CI => iprop(∃ κ : ℕ, cellInv ER (pagedRd m ρ) κ (kcell (c, k))))
          ∗ (posns c ∗ bigSep Finset.univ fun k : CI => reached ER (kcell (c, k)) 0) ∗ toks c) : sProp 𝕄)
      ⊢ bigSep Finset.univ (G' m ρ) := by
  rw [bigSep_sep', bigSep_sep', ← bigSep_univ_prod (fun ck : Dev nD × CI => iprop(∃ κ : ℕ, cellInv ER (pagedRd m ρ) κ (kcell ck))),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (pagedRd m ρ) κ (kcell ck) : sProp 𝕄))) $$ HI
  icases HK with ⟨%K, #HI⟩
  ihave Htk := (toks_around (F := F)) $$ Htok
  have hg (c : Dev nD) : iprop(recs m ρ K ∗ (posns c ∗ payToks c)) ⊢ G' m ρ c := by
    unfold G'
    iintro H
    iexists K
    iexact H
  iapply (bigSep_with_persistent (R := recs m ρ K) (S := Finset.univ) (Φ := fun c : Dev nD => iprop(posns c ∗ payToks c)) fun c _ => hg c)
  isplitr
  · unfold recs; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem bar_inj {a b : Dev nD} (h : barCell a = barCell b) : a = b := congrArg (fun g : GSem nD τ sig => g.1.1) h
theorem recv_inj {a b p q : Dev nD} (h : recvCell a p = recvCell b q) : a = b ∧ p = q := by
  have := kcell_injective (a₁ := (a, .inr (.inr p))) (a₂ := (b, .inr (.inr q))) h
  cases this; exact ⟨rfl, rfl⟩

theorem sends_bar (d c : Dev nD) : ∀ l : List (Dev nD), owedSends d l (barCell c) () = 0
  | [] => rfl
  | p :: l => by
    rw [owedSends_cons, Pi.add_apply, Finsupp.add_apply, sends_bar d c l, Nat.zero_add]
    by_cases h : p = d
    · rw [if_pos h]; rfl
    · rw [if_neg h, tallyAt_ne_cell (fun e => recv_ne_bar _ (congrArg Prod.snd e).symm)]; rfl

/-- How many signals device `d` owes the barrier of `c`. -/
theorem sigs_bar (d c : Dev nD) (b : CellTallies nD τ sig Unit) : ∀ l : List (Dev nD),
    owedSigs d b l (barCell c) () = b (barCell c) () + if c = d then 0 else l.count c
  | [] => by rw [List.count_nil, ite_self]; rfl
  | p :: l => by
    rw [owedSigs_cons, Pi.add_apply, Finsupp.add_apply, sigs_bar d c b l, List.count_cons]
    by_cases h : p = d
    · rw [if_pos h]
      by_cases h' : c = d
      · rw [if_pos h', if_pos h']; rfl
      · rw [if_neg h', if_neg h', if_neg (by simpa using fun e : p = c => h' (e ▸ h))]; rfl
    · rw [if_neg h, tallyAt_apply]
      by_cases h' : c = d
      · rw [if_pos h', if_pos h', if_neg (fun e => h ((bar_inj e.1).symm.trans h'))]
      · rw [if_neg h', if_neg h']
        by_cases h2 : p = c
        · rw [if_pos (by rw [h2]; exact ⟨rfl, rfl⟩), if_pos (by simpa using h2)]; rfl
        · rw [if_neg (fun e => h2 (bar_inj e.1).symm), if_neg (by simpa using h2)]; rfl

theorem sigs_recv (d c p : Dev nD) (b : CellTallies nD τ sig Unit) : ∀ l : List (Dev nD), owedSigs d b l (recvCell c p) () = b (recvCell c p) ()
  | [] => rfl
  | x :: l => by
    rw [owedSigs_cons, Pi.add_apply, Finsupp.add_apply, sigs_recv d c p b l]
    by_cases h : x = d
    · rw [if_pos h]; rfl
    · rw [if_neg h, tallyAt_ne_cell (fun e => recv_ne_bar _ (congrArg Prod.snd e))]; rfl

/-- How much device `d` owes the receive cell of `c` for `p`: its one copy if `p` is `d` itself. -/
theorem sends_recv (d c p : Dev nD) (hc : c ≠ p) : ∀ l : List (Dev nD), owedSends d l (recvCell c p) () = if d = p then l.count c * N else 0
  | [] => by rw [List.count_nil, Nat.zero_mul, ite_self]; rfl
  | x :: l => by
    rw [owedSends_cons, Pi.add_apply, Finsupp.add_apply, sends_recv d c p hc l, List.count_cons]
    by_cases h : x = d
    · rw [if_pos h]
      by_cases h' : d = p
      · rw [if_pos h', if_pos h', if_neg (by simpa using fun e : x = c => hc (e ▸ h.trans h'))]; rfl
      · rw [if_neg h', if_neg h']; rfl
    · rw [if_neg h, tallyAt_apply]
      by_cases h' : d = p
      · rw [if_pos h', if_pos h']
        by_cases h2 : x = c
        · rw [if_pos (by rw [h2, h']; exact ⟨rfl, rfl⟩), if_pos (by simpa using h2), Nat.add_mul, Nat.one_mul]
        · rw [if_neg (fun e => h2 (recv_inj e.1).1.symm), if_neg (by simpa using h2)]; rfl
      · rw [if_neg h', if_neg h', if_neg (fun e => h' (recv_inj e.1).2.symm)]

theorem count_devs (c : Dev nD) : devs.count c = 1 := by revert c; decide

theorem owed_bar (d c : Dev nD) : O₀ d (barCell c) () = if c = d then 0 else 1 := by
  unfold O₀ O₁; rw [sigs_bar, sends_bar, Nat.zero_add, count_devs]
theorem owed_recv (d c p : Dev nD) (hc : c ≠ p) : O₀ d (recvCell c p) () = if d = p then N else 0 := by
  unfold O₀ O₁; rw [sigs_recv, sends_recv d c p hc, count_devs, Nat.one_mul]

theorem sum_peers (c : Dev nD) : (∑ d : Dev nD, if c = d then 0 else 1) = 7 := by revert c; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, sum_peers]

theorem launch_recv (c p : Dev nD) (hc : c ≠ p) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p hc, Finset.sum_ite_eq' Finset.univ p fun _ => N,
    if_pos (Finset.mem_univ _)]

/-- What device `c` waits with: the seven signals and the seven arrivals. -/
def creds (c : Dev nD) : sProp 𝕄 :=
  iprop(cred (tallyAt (barCell c) () 7) ∗ bigSep Finset.univ (fun p : Dev nD => if p = c then iprop(emp) else iprop(cred (tallyAt (recvCell c p) () N))))

theorem creds_intro (c : Dev nD) : (Pipeline.launchCred O₀ c : sProp 𝕄) ⊢ creds c := by
  unfold Pipeline.launchCred creds
  rw [bigSep_univ_at _ (SemLoc.reg barS), launch_bar]
  refine sep_mono_right ?_
  have hinj : Set.InjOn (fun p : Dev nD => (SemLoc.dma (recvS p) : SemLoc sig)) ((Finset.univ : Finset (Dev nD)) : Set (Dev nD)) :=
    fun p _ q _ e => by
      have := csem_injective (a₁ := .inr (.inr p)) (a₂ := .inr (.inr q)) e
      cases this; rfl
  refine (bigSep_subset (t := Finset.univ.image fun p : Dev nD => (SemLoc.dma (recvS p) : SemLoc sig)) fun s hs => ?_).trans ?_
  · obtain ⟨p, -, rfl⟩ := Finset.mem_image.mp hs
    exact Finset.mem_erase.mpr ⟨recv_ne_bar p, Finset.mem_univ _⟩
  · rw [bigSep_image_of_injOn hinj]
    refine bigSep_mono fun p _ => ?_
    by_cases h : p = c
    · rw [if_pos h]; exact to_emp _
    · rw [if_neg h, ← launch_recv c p (fun e => h e.symm)]; exact BI.Entails.refl _

end Cert.PagedProof

end
-- ==== Proof.Launch.lean ====
/-
# The run of the whole program

The body, as the launch asks for it, and the launch itself: from any memory with all counters at zero every device's
kernel runs to its end, the operands keep their contents, the result array of every device holds the combination of all
the partial results, and every counter is zero again.
-/
module

public import proofs.«01_k».proof.Proof.Deal
public import Idealize.ShloMosaic.Lib.Pipeline.CollectiveSegs

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` starts the body from, beside its buffers. -/
def start (c : Dev nD) : sProp 𝕄 := iprop(G' m ρ c ∗ creds c ∗ levAts L lv)

def Φ₀ (c : Dev nD) : sProp 𝕄 := iprop(start m ρ c ∗ partAny c ∗ landAny c)
/-- After the body: the two scratch buffers whole again, and every semaphore of the exchange at zero. -/
def Φ₁ (c : Dev nD) : sProp 𝕄 :=
  iprop(unscopedSems0 c ∗ Pipeline.ownSems0 osem c ∗ (partAny (F := F) c ∗ landAny (F := F) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stQ m ρ c
    | ⟨1, _⟩ => stK m ρ c
    | ⟨2, _⟩ => stV m ρ c
    | ⟨3, _⟩ => stT m ρ c
    | ⟨4, _⟩ => stN m ρ c
    | ⟨5, _⟩ => outAt m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  have e : (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  rw [e]
  have h1 : (iprop(∃ f : Buf (Elt F) (((c : Dev nD) : Thread nD τ).loc b), ⌜f = X⌝ ∗ (((c : Thread nD τ).loc b) ↦{fullShare} f)) : sProp 𝕄)
      ⊢ stg c b X := by
    iintro ⟨%f, %h, H⟩
    subst h
    iexact H
  have h2 : (stg c b X : sProp 𝕄)
      ⊢ (iprop(∃ f : Buf (Elt F) (((c : Dev nD) : Thread nD τ).loc b), ⌜f = X⌝ ∗ (((c : Thread nD τ).loc b) ↦{fullShare} f)) : sProp 𝕄) := by
    iintro H
    iexists X
    isplitr; · ipureintro; rfl
    iexact H
  exact BI.Entails.antisymm h1 h2

/-! ## The body's resources -/

theorem hand_sig (c p : Dev nD) :
    iprop(dutyTok ER (barCell p) 0 c ∗ slotAny (F := F) c p ∗ atPos ER (recvCell c p) 0 ∅ 0
        ∗ (if p = c then iprop(emp) else iprop(cred (tallyAt (recvCell c p) () N))))
      ⊢ iprop(sigIn (F := F) c p ∗ rcvIn c p) := by
  unfold sigIn rcvIn
  by_cases h : p = c
  · rw [if_pos h, if_pos h, if_pos h]
    iintro ⟨-, H2, H3, -⟩
    isplitr; · iempintro
    isplitl [H3] <;> iassumption
  · rw [if_neg h, if_neg h, if_neg h]
    iintro ⟨H1, H2, H3, H4⟩
    isplitl [H1 H2]
    · isplitl [H1] <;> iassumption
    isplitl [H3] <;> iassumption

theorem hand_toks (c p : Dev nD) :
    iprop(dutyTok ER (sendCell c p) 0 0 ∗ dutyTok ER (recvCell p c) 0 0) ⊢ sndToks (F := F) c p := by
  unfold sndToks
  by_cases h : p = c
  · rw [if_pos h]; exact to_emp _
  · rw [if_neg h]

theorem body_in (c : Dev nD) (f₀ : PartBuf F) (g₀ : (cc0_stg5_0 : Ref sig .tc).ty.Contents (Elt F)) :
    iprop(posns c ∗ payToks c ∗ creds c ∗ landAny (F := F) c ∗ owesE c (O₀ c) ∗ operands m ρ c ∗ stg c cc0_stg5_0 g₀ ∗ partPts c f₀)
      ⊢ bodyIn m ρ c f₀ g₀ := by
  unfold posns payToks creds
  rw [ci_split]
  simp only [all8_eq]
  iintro ⟨⟨HaB, HaS, HaV⟩, ⟨HtB, HtS, HtV⟩, ⟨HcB, HcV⟩, HL, HO, Hop, Hout, Hpart⟩
  ihave Hsl := (land_split (F := F) c) $$ HL
  have h1 : iprop(all8 (fun p => dutyTok ER (barCell p) 0 c) ∗ all8 (slotAny (F := F) c) ∗ all8 (fun p => atPos ER (recvCell c p) 0 ∅ 0)
      ∗ all8 (fun p => if p = c then iprop(emp) else iprop(cred (tallyAt (recvCell c p) () N))))
      ⊢ iprop(all8 (sigIn (F := F) c) ∗ all8 (rcvIn c)) := by
    rw [← all8_sep, ← all8_sep, ← all8_sep, ← all8_sep]
    exact all8_mono fun p => hand_sig c p
  have h2 : iprop(all8 (fun p => dutyTok ER (sendCell c p) 0 0) ∗ all8 (fun p => dutyTok ER (recvCell p c) 0 0)) ⊢ all8 (sndToks (F := F) c) := by
    rw [← all8_sep]
    exact all8_mono fun p => hand_toks c p
  ihave Hs := h1 $$ [HtB Hsl HaV HcV]
  · isplitl [HtB]; · iexact HtB
    isplitl [Hsl]; · iexact Hsl
    isplitl [HaV]; · iexact HaV
    iexact HcV
  icases Hs with ⟨Hsig, Hrcv⟩
  ihave Ht := h2 $$ [HtS HtV]
  · isplitl [HtS]; · iexact HtS
    iexact HtV
  unfold bodyIn
  isplitl [HO]; · iexact HO
  isplitl [Hop]; · iexact Hop
  isplitl [Hout]; · iexact Hout
  isplitl [Hpart]; · iexact Hpart
  isplitl [Hsig]; · iexact Hsig
  isplitl [HcB HaB]
  · isplitl [HcB]; · iexact HcB
    iexact HaB
  isplitl [Ht]; · iexact Ht
  isplitl [Hrcv]; · iexact Hrcv
  iexact HaS

theorem body_out (c : Dev nD) (f₀ : PartBuf F) :
    bodyOut m ρ c f₀ ⊢ iprop(Φ₁ (F := F) c ∗ owesE c 0 ∗ operands m ρ c ∗ stg c cc0_stg5_0 (outAt m ρ)) := by
  have ha : all8 (ackOut m ρ c) = iprop(all8 (fun p => semVal (sendCell c p) 0) ∗ all8 (partShare m ρ c)) := by
    rw [← all8_sep]; rfl
  have hs : all8 (slotEnd (F := F) c) = iprop(all8 (fun p => semVal (recvCell c p) 0) ∗ all8 (slotAny (F := F) c)) := by
    rw [← all8_sep]; rfl
  unfold bodyOut Φ₁
  rw [ha, hs, ownSems0_eq, unscopedSems0_eq, all8_eq, all8_eq]
  iintro ⟨HO, Hop, ⟨%y, %hy, Hout⟩, HzB, ⟨HzS, Hsh⟩, ⟨HzV, Hsl⟩⟩
  rw [resAt_eq m ρ c f₀ y hy]
  ihave Hp := (part_join m ρ c) $$ Hsh
  ihave Hl := (land_join (F := F) c) $$ Hsl
  isplitl [HzB HzS HzV Hp Hl]
  · isplitl [HzB]; · iexact HzB
    isplitl [HzS HzV]
    · isplitl [HzS]; · iexact HzS
      iexact HzV
    isplitl [Hp]; · iexact Hp
    iexact Hl
  isplitl [HO]; · iexact HO
  isplitl [Hop]; · iexact Hop
  iexact Hout

/-! ## The body, as the launch asks for it -/

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ
    ∗ stg c cc0_stg0_0 (stQ m ρ c) ∗ stg c cc0_stg1_0 (stK m ρ c) ∗ stg c cc0_stg2_0 (stV m ρ c)
    ∗ stg c cc0_stg3_0 (stT m ρ c) ∗ stg c cc0_stg4_0 (stN m ρ c) ∗ stg c cc0_stg5_0 (outAt m ρ))

theorem before_0 (c : Dev nD) (d) : (dats m ρ 0 c).before (0 : Fin 6) t₀ d = stQ m ρ c := by
  unfold Dat.before; rw [if_pos (fetch_0 t₀)]; rfl
theorem before_1 (c : Dev nD) (d) : (dats m ρ 0 c).before (1 : Fin 6) t₀ d = stK m ρ c := by
  unfold Dat.before; rw [if_pos (fetch_1 t₀)]; rfl
theorem before_2 (c : Dev nD) (d) : (dats m ρ 0 c).before (2 : Fin 6) t₀ d = stV m ρ c := by
  unfold Dat.before; rw [if_pos (fetch_2 t₀)]; rfl
theorem before_3 (c : Dev nD) (d) : (dats m ρ 0 c).before (3 : Fin 6) t₀ d = stT m ρ c := by
  unfold Dat.before; rw [if_pos (fetch_3 t₀)]; rfl
theorem before_4 (c : Dev nD) (d) : (dats m ρ 0 c).before (4 : Fin 6) t₀ d = stN m ρ c := by
  unfold Dat.before; rw [if_pos (fetch_4 t₀)]; rfl

theorem owesAt_open (c : Dev nD) : (dats m ρ 0 c).owesAt () t₀.castSucc ⊢ owesE (F := F) c (O₀ c) := by
  unfold Dat.owesAt Pipeline.owesWithin owesE
  rw [show (dats m ρ 0 c).owed t₀.castSucc = O₀ c from rfl]
  iintro ⟨%W, -, H⟩
  iexists W; iexact H
theorem owesAt_close (c : Dev nD) : owesE (F := F) c 0 ⊢ (dats m ρ 0 c).owesAt () t₀.succ := by
  unfold Dat.owesAt Pipeline.owesWithin owesE
  rw [show (dats m ρ 0 c).owed t₀.succ = 0 from rfl]
  iintro ⟨%W, H⟩
  iexists W
  isplitr; · ipureintro; exact fun _ _ => Or.inl trivial
  iexact H

theorem sound_body (c : Dev nD) :
    bodyPre m ρ c ⊢ runs c (cc0_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3) (fun _ => bodyPost m ρ c) := by
  unfold bodyPre Φ₀ start G' partAny
  iintro ⟨⟨⟨⟨%K, #HR, Hpos, Htok⟩, Hcr, #HL⟩, ⟨%f₀, Hpart⟩, Hland⟩, Ho, ⟨%d0, H0⟩, ⟨%d1, H1⟩, ⟨%d2, H2⟩, ⟨%d3, H3⟩, ⟨%d4, H4⟩, ⟨%d5, H5⟩⟩
  rw [before_0, before_1, before_2, before_3, before_4]
  ihave HO := (owesAt_open m ρ c) $$ Ho
  ihave Hin := (body_in m ρ c f₀ ((dats m ρ 0 c).before (5 : Fin 6) t₀ d5)) $$ [Hpos Htok Hcr Hland HO H0 H1 H2 H3 H4 H5 Hpart]
  · isplitl [Hpos]; · iexact Hpos
    isplitl [Htok]; · iexact Htok
    isplitl [Hcr]; · iexact Hcr
    isplitl [Hland]; · iexact Hland
    isplitl [HO]; · iexact HO
    isplitl [H0 H1 H2 H3 H4]
    · unfold operands
      isplitl [H0]; · iexact H0
      isplitl [H1]; · iexact H1
      isplitl [H2]; · iexact H2
      isplitl [H3]; · iexact H3
      iexact H4
    isplitl [H5]; · iexact H5
    iexact Hpart
  iapply (body_wp m ρ K c f₀ ((dats m ρ 0 c).before (5 : Fin 6) t₀ d5) (fun _ => bodyPost m ρ c)) $$ [Hin]
  · isplitr
    · isplitr; · iexact HR
      iexact HL
    iexact Hin
  iintro Hout
  ihave Hout := (body_out m ρ c f₀) $$ Hout
  unfold operands
  icases Hout with ⟨HΦ, HO, ⟨H0, H1, H2, H3, H4⟩, H5⟩
  unfold bodyPost
  isplitl [HΦ]; · iexact HΦ
  isplitl [HO]; · iapply (owesAt_close m ρ c); iexact HO
  isplitl [H0]; · iexact H0
  isplitl [H1]; · iexact H1
  isplitl [H2]; · iexact H2
  isplitl [H3]; · iexact H3
  isplitl [H4]; · iexact H4
  iexact H5

set_option maxRecDepth 4000 in
/-- The launch's obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_stg]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ partAny landAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  exact BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, for any float values and from any memory with all counters at zero: every weakly fair run of
    the program ends, with the windows' arrays at `finalA` and every counter at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.PagedProof

end
-- ==== Proof.Frames.lean ====
/-
# The frames

What the run leaves in each array: the arguments as they were, the result the combination of all the partial results,
the counters at zero. Both programs have the same text, so one run gives the frame of each.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.PagedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem finalA_0 (c : Dev nD) : finalA m ρ c (0 : Fin 6) = m ((c.tc : Thread nD τ).loc main_arg0) :=
  (dats m ρ 0 c).arrAt_in (0 : Fin 6) rfl _
theorem finalA_1 (c : Dev nD) : finalA m ρ c (1 : Fin 6) = m ((c.tc : Thread nD τ).loc main_arg1) :=
  (dats m ρ 0 c).arrAt_in (1 : Fin 6) rfl _
theorem finalA_2 (c : Dev nD) : finalA m ρ c (2 : Fin 6) = m ((c.tc : Thread nD τ).loc main_arg2) :=
  (dats m ρ 0 c).arrAt_in (2 : Fin 6) rfl _
theorem finalA_3 (c : Dev nD) : finalA m ρ c (3 : Fin 6) = m ((c.tc : Thread nD τ).loc main_arg3) :=
  (dats m ρ 0 c).arrAt_in (3 : Fin 6) rfl _
theorem finalA_4 (c : Dev nD) : finalA m ρ c (4 : Fin 6) = m ((c.tc : Thread nD τ).loc main_arg4) :=
  (dats m ρ 0 c).arrAt_in (4 : Fin 6) rfl _

/-- The result's one block is the whole array, and it holds the combination. -/
theorem finalA_5 (c : Dev nD) : (win0_5.blk (0 : Fin 1)).view.read (Elt F) (finalA m ρ c (5 : Fin 6)) = outAt m ρ := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The arguments of a device are what they were. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem kept_of {r : PUnit × MemSt nD τ sig (Elt F)} (h : QC m ρ r) (c : Dev nD) : Kept m r c :=
  ⟨(h c (0 : Fin 6)).trans (finalA_0 m ρ c), (h c (1 : Fin 6)).trans (finalA_1 m ρ c), (h c (2 : Fin 6)).trans (finalA_2 m ρ c),
    (h c (3 : Fin 6)).trans (finalA_3 m ρ c), (h c (4 : Fin 6)).trans (finalA_4 m ρ c)⟩

theorem read_out (r : PUnit × MemSt nD τ sig (Elt F)) (c : Dev nD) :
    r.2.mem ((cfg0.win (5 : Fin 6)).arr.view.loc (c : Thread nD τ))
      = (win0_5.blk (0 : Fin 1)).view.read (Elt F) (r.2.mem ((cfg0.win (5 : Fin 6)).arr.view.loc (c : Thread nD τ))) := by
  have hz : (fun a => (win0_5.index (0 : Fin 1)) a * main_v1.ty.shape.size a) = fun _ => 0 := funext fun a => by fin_cases a <;> decide
  exact (Memref.read_access_unit_zero (Elt F) main_v1 hz (fun a => by fin_cases a <;> decide) _).symm

theorem result_of {r : PUnit × MemSt nD τ sig (Elt F)} (h : QC m ρ r) (c : Dev nD) :
    r.2.mem ((c.tc : Thread nD τ).loc main_v1) = outAt m ρ := by
  refine (read_out r c).trans ?_
  rw [h c (5 : Fin 6)]
  exact finalA_5 m ρ c

theorem frame_all : θ_run defs (onTc (τ := τ) (main (F := F))) (s₀ m ρ) (fun r => (∀ c, Kept m r c) ∧ r.2.sem = fun _ => 0) :=
  (θ_run Cert.KernelIdeal.defs _ _).mono (fun _ h => ⟨fun c => kept_of m ρ h.1 c, h.2⟩) (run_all m ρ)

theorem frame_kernelIdeal : Cert.quiescent_KernelIdeal := fun m ρ _ => frame_all (F := Ideal) m ρ

/-- The two programs have the same body table. -/
theorem kernel_defs₀ : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
theorem kernel_defs : Cert.Kernel.defs (F := F) = Cert.KernelIdeal.defs (F := F) := by
  unfold Cert.Kernel.defs Cert.KernelIdeal.defs
  rw [kernel_defs₀]
  rfl

theorem frame_kernel : Cert.quiescent_Kernel := fun m ρ _ => by
  rw [kernel_defs]
  exact frame_all (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.PagedProof

end
-- ==== Proof.Counts.lean ====
/-
# How often a row names a page, at an element

The kernel counts, for each of the device's 64 pages, the slots of a row that name it: 64 columns of
comparisons, summed along the slots. A product with a table of zeros and ones spreads the counts over the keys.
-/
module

public import proofs.«01_k».proof.Proof.Values
public import Idealize.ShloMosaic.Lib.Pointwise

@[expose] public section

noncomputable section

namespace Cert.PagedProof

open Cert.KernelIdeal Cert.KernelIdeal.Gen
open Idealize.ShloMosaic

/-- How often each row of the table `v` holds the number `n`: one column of the counts. -/
def colOf (v : IVec S8x64 32) (n : Fin 64) : FVec Ideal S8x1 .f32 :=
  shapeCast S8x1 (multiReduction .add [1] S8 (sitofp .f32 (extui 32 (cmpi .eq v (broadcast S8x64 (BitVec.ofNat 32 n.val))) natLt_1_32) : FVec Ideal S8x64 .f32)
    0x00000000#32 reduces_S8x64_S8 (.inl rfl) rfl) shapeCasts_S8_S8x1

/-- The table that spreads a count of a page over the keys of that page: 1 where the key is of the page. -/
def hotOf : FVec Ideal S64x1024 .f32 :=
  have v435 : IVec S64x1024 32 := iota .tc S64x1024 32 [0] iota_S64x1024_d0_w32
  have v436 : IVec S64x1024 32 := iota .tc S64x1024 32 [1] iota_S64x1024_d1_w32
  have v437 : IVec S64x1024 32 := broadcast S64x1024 16#32
  have v438 : IVec S64x1024 32 := divsi v436 v437
  have v439 : IVec S64x1024 32 := broadcast S64x1024 0#32
  have v440 : IVec S64x1024 1 := cmpi .sgt v436 v439
  have v441 : IVec S64x1024 32 := extui 32 v440 natLt_1_32
  have v442 : IVec S64x1024 32 := broadcast S64x1024 0#32
  have v443 : IVec S64x1024 1 := cmpi .slt v436 v442
  have v444 : IVec S64x1024 32 := extui 32 v443 natLt_1_32
  have v445 : IVec S64x1024 32 := subi v441 v444
  let v446 : BitVec 1 := Scalar.cmpi .sgt 16#32 0#32
  let v447 : BitVec 32 := Scalar.extui v446
  let v448 : BitVec 1 := Scalar.cmpi .slt 16#32 0#32
  let v449 : BitVec 32 := Scalar.extui v448
  let v450 : BitVec 32 := Scalar.subi v447 v449
  have v451 : IVec S64x1024 32 := broadcast S64x1024 v450
  have v452 : IVec S64x1024 1 := cmpi .ne v445 v451
  have v453 : IVec S64x1024 32 := broadcast S64x1024 16#32
  have v454 : IVec S64x1024 32 := remsi v436 v453
  have v455 : IVec S64x1024 32 := broadcast S64x1024 0#32
  have v456 : IVec S64x1024 1 := cmpi .ne v454 v455
  have v457 : IVec S64x1024 1 := andi v452 v456
  have v458 : IVec S64x1024 32 := broadcast S64x1024 1#32
  have v459 : IVec S64x1024 32 := subi v438 v458
  have v460 : IVec S64x1024 32 := select v457 v459 v438
  have v461 : IVec S64x1024 1 := cmpi .eq v435 v460
  sitofp .f32 (extui 32 v461 natLt_1_32)

/-- The 64 columns make one array of 64 columns. -/
theorem cats (v : IVec S8x64 32) : Shape.Concatenates ((List.ofFn fun n : Fin 64 => (⟨S8x1, colOf v n⟩ : (s : Shape) × (s.Idx → Ideal .f32))).map (·.1)) S8x64 1 := by
  have h : Shape.Concatenates (List.replicate 64 S8x1) S8x64 1 := by decide
  exact h

/-- The counts are the product of the 64 columns with the spreading table. -/
theorem cnt_eq (w : BitVec 32) (v : IVec S8x64 32) (n : IVec S8 32) :
    cntOf (F := Ideal) w v n = matmul dot_S8x64_S64x1024_S8x1024_1_0_0_1_n_n none
      (concatenate S8x64 1 (List.ofFn fun i : Fin 64 => (⟨S8x1, colOf (k0_pay4 (F := Ideal) w v n) i⟩ : (s : Shape) × (s.Idx → Ideal .f32))) (cats _))
      hotOf (constant S8x1024 .f32 0x00000000#32) := rfl

/-- The quotient by 16 as the kernel spells it: rounded toward zero, then corrected where the signs differ. -/
theorem quot_word : ∀ k : Fin 1024, Scalar.select
            (IntOp.andi
              (IntOp.cmpi CmpIPredicate.ne
                (IntOp.subi (BitVec.setWidth 32 (IntOp.cmpi CmpIPredicate.sgt (BitVec.ofNat 32 ↑k) 0#32))
                  (BitVec.setWidth 32 (IntOp.cmpi CmpIPredicate.slt (BitVec.ofNat 32 ↑k) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 ↑k) 16#32) 0#32))
            (IntOp.subi (IntOp.divsi ArithUnit.vector (BitVec.ofNat 32 ↑k) 16#32) 1#32)
            (IntOp.divsi ArithUnit.vector (BitVec.ofNat 32 ↑k) 16#32) = BitVec.ofNat 32 (k.val / 16) := by
  decide +kernel

/-- A bit, widened and read as a number. -/
theorem flag_read (c : Bool) : (FloatOps.sitofp FTy.f32 (BitVec.setWidth 32 (BitVec.ofBool c)) : Ideal .f32) = if c then (1 : EReal) else 0 := by
  cases c
  · show (((0 : ℤ) : ℝ) : EReal) = _
    simp
  · show (((1 : ℤ) : ℝ) : EReal) = _
    simp

theorem colOf_ap (v : IVec S8x64 32) (n : Fin 64) (b : Fin 8) :
    colOf v n (ix2 b 0) = ((Finset.univ.filter fun s : Fin 64 => v (ix2 b s) = BitVec.ofNat 32 n.val).card : EReal) := by
  have h : colOf v n (ix2 b 0) = ∑ s : Fin 64, (FloatOps.sitofp FTy.f32 (BitVec.setWidth 32 (IntOp.cmpi CmpIPredicate.eq (v (ix2 b s)) (BitVec.ofNat 32 n.val))) : Ideal .f32) := by
    pointwise [colOf]
  rw [h, Finset.card_filter, Nat.cast_sum]
  refine Finset.sum_congr rfl fun s _ => ?_
  refine (flag_read _).trans ?_
  by_cases hs : v (ix2 b s) = BitVec.ofNat 32 n.val <;> simp [hs]

theorem hot_ap (i : Fin 64) (k : Fin 1024) : hotOf (ix2 i k) = if i.val = k.val / 16 then (1 : EReal) else 0 := by
  pointwise [hotOf]
  rw [quot_word k]
  refine (flag_read _).trans ?_
  have : (BitVec.ofNat 32 i.val == BitVec.ofNat 32 (k.val / 16)) = decide (i.val = k.val / 16) := by
    rw [Bool.beq_eq_decide_eq]
    refine decide_eq_decide.2 ⟨fun h => ?_, fun h => by rw [h]⟩
    have := congrArg BitVec.toNat h
    simp only [BitVec.toNat_ofNat] at this
    omega
  simp [this]

/-- The count that a key gets is how often the row names its page. -/
theorem cnt_ap (w : BitVec 32) (v : IVec S8x64 32) (n : IVec S8 32) (b : Fin 8) (k : Fin 1024) :
    cntOf (F := Ideal) w v n (ix2 b k) =
     ((Finset.univ.filter fun s : Fin 64 => k0_pay4 (F := Ideal) w v n (ix2 b s) = BitVec.ofNat 32 (k.val / 16)).card : EReal) := by
  rw [cnt_eq]
  have h : ∀ c : Fin 64 → FVec Ideal S8x1 .f32, ∀ hc, matmul dot_S8x64_S64x1024_S8x1024_1_0_0_1_n_n none
      (concatenate S8x64 1 (List.ofFn fun i : Fin 64 => (⟨S8x1, c i⟩ : (s : Shape) × (s.Idx → Ideal .f32))) hc)
      hotOf (constant S8x1024 .f32 0x00000000#32) (ix2 b k) = ∑ x : Fin 64, c x (ix2 b 0) * hotOf (ix2 x k) := by
    intro c hc
    pointwise
  rw [h]
  simp only [hot_ap, colOf_ap]
  rw [Finset.sum_eq_single (⟨k.val / 16, by omega⟩ : Fin 64)]
  · simp
  · intro i _ hi
    rw [if_neg (fun hh => hi (Fin.ext hh)), mul_zero]
  · intro hh
    exact absurd (Finset.mem_univ _) hh

/-- The mask is where the count is positive. -/
theorem msk_ap (w : BitVec 32) (v : IVec S8x64 32) (n : IVec S8 32) (b : Fin 8) (k : Fin 1024) :
    mskOf (F := Ideal) w v n (ix2 b k) = FloatOps.cmpf (F := Ideal) .ogt (cntOf (F := Ideal) w v n (ix2 b k)) (Ideal.ofBits .f32 0#32) := rfl

/-- An entry of the table that is counted: the page's number on the device where the slot is in use. -/
theorem pay4_ap (w : BitVec 32) (v : IVec S8x64 32) (n : IVec S8 32) (b : Fin 8) (s : Fin 64) :
    k0_pay4 (F := Ideal) w v n (ix2 b s)
      = Scalar.select (IntOp.cmpi .slt (BitVec.ofNat 32 s.val) (n (ix1 b))) (IntOp.subi (v (ix2 b s)) (Scalar.muli w 64#32)) 4294967295#32 := by
  pointwise [k0_pay4]

end Cert.PagedProof
-- ==== Proof.Softmax.lean ====
/-
# Attention over pages, divided and combined

The arithmetic of the value claim, free of both programs. One row of a batch names up to 64 pages out of 512;
a page holds 16 keys. The plain softmax runs over the named pages in turn. The divided one runs over all
pages, 64 to each of 8 devices, and weighs a page by the number of times that the row names it; each device
shifts its scores by a number of its own and the combination shifts them again. The two agree whatever the
shifts are, so long as all of them are real: the exponential of a sum is the product of the exponentials.
The values may be infinite. Only the scores need to be real.
-/
module

public import Idealize.ShloMosaic.PureOps.Ideal

@[expose] public section

noncomputable section

namespace Cert.PagedProof

open Idealize.ShloMosaic

/-! ## The index of a key -/

/-- The page slot of key `k`. -/
def slot (k : Fin 1024) : Fin 64 := ⟨k.val / 16, by omega⟩

/-- The place of key `k` in its page. -/
def place (k : Fin 1024) : Fin 16 := ⟨k.val % 16, by omega⟩

/-- The page in slot `j` of device `p`. -/
def pageAt (p : Fin 8) (j : Fin 64) : Fin 512 := ⟨64 * p.val + j.val, by omega⟩

theorem sum_keys {α : Type} [AddCommMonoid α] (f : Fin 64 → Fin 16 → α) :
    ∑ k : Fin 1024, f (slot k) (place k) = ∑ j, ∑ r, f j r := by
  rw [← Finset.sum_product', Finset.univ_product_univ]
  refine Finset.sum_nbij' (fun k => (slot k, place k)) (fun q => ⟨16 * q.1.val + q.2.val, by omega⟩)
    (fun _ _ => Finset.mem_univ _) (fun _ _ => Finset.mem_univ _) (fun k _ => Fin.ext ?_) (fun q _ => ?_) (fun _ _ => rfl)
  · show 16 * (k.val / 16) + k.val % 16 = k.val
    omega
  · refine Prod.ext (Fin.ext ?_) (Fin.ext ?_)
    · show (16 * q.1.val + q.2.val) / 16 = q.1.val
      omega
    · show (16 * q.1.val + q.2.val) % 16 = q.2.val
      omega

theorem sum_pages {α : Type} [AddCommMonoid α] (f : Fin 512 → α) :
    ∑ p, ∑ j, f (pageAt p j) = ∑ P, f P := by
  rw [← Finset.sum_product', Finset.univ_product_univ]
  refine Finset.sum_nbij' (fun q => pageAt q.1 q.2) (fun P => (⟨P.val / 64, by omega⟩, ⟨P.val % 64, by omega⟩))
    (fun _ _ => Finset.mem_univ _) (fun _ _ => Finset.mem_univ _) (fun q _ => ?_) (fun P _ => Fin.ext ?_) (fun _ _ => rfl)
  · refine Prod.ext (Fin.ext ?_) (Fin.ext ?_)
    · show (64 * q.1.val + q.2.val) / 64 = q.1.val
      omega
    · show (64 * q.1.val + q.2.val) % 64 = q.2.val
      omega
  · show 64 * (P.val / 64) + P.val % 64 = P.val
    omega

section

variable (U : Fin 64 → Prop) [DecidablePred U] (pg : Fin 64 → Fin 512)

/-- How often the row names page `P`. -/
def times (P : Fin 512) : ℕ := (Finset.univ.filter fun s => U s ∧ pg s = P).card

/-- A sum over the pages, each as often as it is named, is the sum over the names. -/
theorem sum_named {α : Type} [AddCommMonoid α] (g : Fin 512 → Fin 16 → α) :
    ∑ p, ∑ k, times U pg (pageAt p (slot k)) • g (pageAt p (slot k)) (place k)
      = ∑ k, if U (slot k) then g (pg (slot k)) (place k) else 0 := by
  have h1 (p : Fin 8) := sum_keys fun j r => times U pg (pageAt p j) • g (pageAt p j) r
  simp only [h1]
  rw [sum_pages fun P => ∑ r, times U pg P • g P r]
  rw [sum_keys fun s r => if U s then g (pg s) r else 0]
  have h2 (P : Fin 512) (r : Fin 16) : times U pg P • g P r = ∑ s, if U s ∧ pg s = P then g P r else 0 := by
    rw [Finset.sum_ite, Finset.sum_const, Finset.sum_const_zero, add_zero]
    rfl
  simp only [h2]
  rw [Finset.sum_comm]
  rw [Finset.sum_congr rfl fun r _ => Finset.sum_comm]
  rw [Finset.sum_comm]
  refine Finset.sum_congr rfl fun s _ => Finset.sum_congr rfl fun r _ => ?_
  by_cases hs : U s
  · rw [if_pos hs, Finset.sum_eq_single (pg s)]
    · rw [if_pos ⟨hs, rfl⟩]
    · intro P _ hP
      exact if_neg fun h => hP h.2.symm
    · intro h
      exact absurd (Finset.mem_univ _) h
  · rw [if_neg hs]
    exact Finset.sum_eq_zero fun P _ => if_neg fun h => hs h.1

end

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real goes into a sum of extended reals. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.2 ha) (EReal.coe_ne_top a), ih]

theorem exp_sub (a b : ℝ) : Ideal.exp ((a : EReal) - (b : EReal)) = ((Real.exp (a - b) : ℝ) : EReal) := rfl

theorem exp_bot_sub (b : ℝ) : Ideal.exp ((⊥ : EReal) - (b : EReal)) = 0 := by
  rw [EReal.bot_sub]
  rfl

theorem div_pos_real (x : EReal) {a : ℝ} (ha : 0 < a) : Ideal.div x (a : EReal) = x * ((a⁻¹ : ℝ) : EReal) := by
  have h : (a : EReal) ≠ 0 := by
    intro h
    exact ha.ne' (EReal.coe_eq_zero.1 h)
  unfold Ideal.div
  rw [if_neg h, EReal.coe_inv]

/-! ## The two softmaxes -/

section

variable (U : Fin 64 → Prop) [DecidablePred U] (pg : Fin 64 → Fin 512) (x : Fin 512 → Fin 16 → ℝ) (V : Fin 512 → Fin 16 → EReal)

/-- What the softmax divides by. -/
def total (M : ℝ) : ℝ := ∑ k, if U (slot k) then Real.exp (x (pg (slot k)) (place k) - M) else 0

theorem total_pos (hU : ∃ s, U s) (M : ℝ) : 0 < total U pg x M := by
  obtain ⟨s, hs⟩ := hU
  refine Finset.sum_pos' (fun k _ => ?_) ⟨⟨16 * s.val, by omega⟩, Finset.mem_univ _, ?_⟩
  · split
    · exact (Real.exp_pos _).le
    · exact le_rfl
  · have : slot ⟨16 * s.val, by omega⟩ = s := Fin.ext (by show 16 * s.val / 16 = s.val; omega)
    rw [this, if_pos hs]
    exact Real.exp_pos _

theorem total_eq (M : ℝ) :
    ∑ p, ∑ k, (times U pg (pageAt p (slot k)) : ℝ) * Real.exp (x (pageAt p (slot k)) (place k) - M) = total U pg x M := by
  rw [total, ← sum_named U pg fun P r => Real.exp (x P r - M)]
  simp only [nsmul_eq_mul]

/-- The weight of a key on device `p`, shifted by the device's number. -/
def weight (μ : Fin 8 → ℝ) (p : Fin 8) (k : Fin 1024) : ℝ :=
  (times U pg (pageAt p (slot k)) : ℝ) * Real.exp (x (pageAt p (slot k)) (place k) - μ p)

theorem weight_nonneg (μ : Fin 8 → ℝ) (p : Fin 8) (k : Fin 1024) : 0 ≤ weight U pg x μ p k :=
  mul_nonneg (Nat.cast_nonneg _) (Real.exp_pos _).le

/-- The two shifts together are one. -/
theorem weight_shift (μ : Fin 8 → ℝ) (γ M : ℝ) (p : Fin 8) (k : Fin 1024) :
    Real.exp (μ p - γ) * weight U pg x μ p k
      = Real.exp (M - γ) * ((times U pg (pageAt p (slot k)) : ℝ) * Real.exp (x (pageAt p (slot k)) (place k) - M)) := by
  have h : Real.exp (μ p - γ) * Real.exp (x (pageAt p (slot k)) (place k) - μ p)
      = Real.exp (M - γ) * Real.exp (x (pageAt p (slot k)) (place k) - M) := by
    rw [← Real.exp_add, ← Real.exp_add]
    congr 1
    ring
  rw [weight, mul_left_comm, h, mul_left_comm]

theorem den_eq (μ : Fin 8 → ℝ) (γ M : ℝ) :
    ∑ p, Ideal.exp ((μ p : EReal) - (γ : EReal)) * ∑ k, (weight U pg x μ p k : EReal)
      = ((Real.exp (M - γ) * total U pg x M : ℝ) : EReal) := by
  rw [← total_eq, Finset.mul_sum, coe_sum]
  refine Finset.sum_congr rfl fun p _ => ?_
  rw [exp_sub, ← coe_sum, ← EReal.coe_mul, Finset.mul_sum, Finset.mul_sum]
  refine congrArg _ (Finset.sum_congr rfl fun k _ => weight_shift U pg x μ γ M p k)

/-- The combined partial results are the plain softmax of the scores, applied to the values. -/
theorem combined_eq (hU : ∃ s, U s) (μ : Fin 8 → ℝ) (γ M : ℝ) :
    Ideal.div (∑ p, Ideal.exp ((μ p : EReal) - (γ : EReal)) * ∑ k, (weight U pg x μ p k : EReal) * V (pageAt p (slot k)) (place k))
        (∑ p, Ideal.exp ((μ p : EReal) - (γ : EReal)) * ∑ k, (weight U pg x μ p k : EReal))
      = ∑ k, if U (slot k) then ((Real.exp (x (pg (slot k)) (place k) - M) * (total U pg x M)⁻¹ : ℝ) : EReal) * V (pg (slot k)) (place k) else 0 := by
  have hL := total_pos U pg x hU M
  have hA : 0 < Real.exp (M - γ) * total U pg x M := mul_pos (Real.exp_pos _) hL
  rw [den_eq U pg x μ γ M, div_pos_real _ hA, ← sum_named U pg fun P r => ((Real.exp (x P r - M) * (total U pg x M)⁻¹ : ℝ) : EReal) * V P r,
    mul_comm, coe_mul_sum _ (inv_nonneg.2 hA.le)]
  refine Finset.sum_congr rfl fun p _ => ?_
  rw [exp_sub, ← mul_assoc, ← EReal.coe_mul, coe_mul_sum _ (mul_nonneg (inv_nonneg.2 hA.le) (Real.exp_pos _).le)]
  refine Finset.sum_congr rfl fun k _ => ?_
  rw [← mul_assoc, ← EReal.coe_mul, mul_assoc, weight_shift U pg x μ γ M p k, EReal.nsmul_eq_mul,
    ← mul_assoc ((times U pg (pageAt p (slot k)) : ℕ) : EReal)]
  congr 1
  rw [← EReal.coe_natCast, ← EReal.coe_mul]
  congr 1
  have h1 : Real.exp (M - γ) ≠ 0 := (Real.exp_pos _).ne'
  field_simp

/-- The plain softmax: a name out of use has the score `⊥`, so the weight 0. -/
theorem plain_eq (hU : ∃ s, U s) (M : ℝ) (S : Fin 1024 → EReal) (W : Fin 1024 → EReal)
    (hS : ∀ k, S k = if U (slot k) then (x (pg (slot k)) (place k) : EReal) else ⊥)
    (hW : ∀ k, U (slot k) → W k = V (pg (slot k)) (place k)) :
    ∑ k, W k * Ideal.div (Ideal.exp (S k - (M : EReal))) (∑ k', Ideal.exp (S k' - (M : EReal)))
      = ∑ k, if U (slot k) then ((Real.exp (x (pg (slot k)) (place k) - M) * (total U pg x M)⁻¹ : ℝ) : EReal) * V (pg (slot k)) (place k) else 0 := by
  have hE (k : Fin 1024) : Ideal.exp (S k - (M : EReal))
      = (((if U (slot k) then Real.exp (x (pg (slot k)) (place k) - M) else 0 : ℝ)) : EReal) := by
    rw [hS]
    split
    · exact exp_sub _ _
    · exact exp_bot_sub _
  have hT : ∑ k', Ideal.exp (S k' - (M : EReal)) = (total U pg x M : EReal) := by
    rw [total, coe_sum]
    exact Finset.sum_congr rfl fun k _ => hE k
  rw [hT]
  refine Finset.sum_congr rfl fun k _ => ?_
  rw [hE, div_pos_real _ (total_pos U pg x hU M)]
  split
  · next h => rw [hW k h, ← EReal.coe_mul, mul_comm]
  · simp

end

/-! ## A largest score is real -/

theorem real_max {a b : EReal} (ha : ∃ r : ℝ, a = r) (hb : ∃ r : ℝ, b = r) : ∃ r : ℝ, max a b = r := by
  obtain ⟨r, rfl⟩ := ha
  obtain ⟨s, rfl⟩ := hb
  rcases le_total (r : EReal) (s : EReal) with h | h
  · exact ⟨s, max_eq_right h⟩
  · exact ⟨r, max_eq_left h⟩

/-- The largest of values none of which is `⊤` and one of which is real. -/
theorem real_fold {ι : Type} [Fintype ι] (f : ι → EReal) (h1 : ∀ i, f i = ⊥ ∨ ∃ r : ℝ, f i = r) (h2 : ∃ i, ∃ r : ℝ, f i = r) :
    ∃ r : ℝ, Finset.fold max ⊥ f Finset.univ = r := by
  have key (s : Finset ι) : (Finset.fold max ⊥ f s = ⊥ ∧ ∀ i ∈ s, f i = ⊥) ∨ ∃ r : ℝ, Finset.fold max ⊥ f s = r := by
    classical
    induction s using Finset.induction_on with
    | empty => exact Or.inl ⟨rfl, fun i hi => absurd hi (Finset.notMem_empty i)⟩
    | insert i s hi ih =>
      rw [Finset.fold_insert hi]
      rcases h1 i with hb | hr
      · rw [hb, max_eq_right bot_le]
        rcases ih with ⟨e, hall⟩ | ih
        · refine Or.inl ⟨e, fun j hj => ?_⟩
          rcases Finset.mem_insert.1 hj with rfl | hj
          · exact hb
          · exact hall j hj
        · exact Or.inr ih
      · rcases ih with ⟨e, -⟩ | ih
        · rw [e, max_eq_left bot_le]
          exact Or.inr hr
        · exact Or.inr (real_max hr ih)
  rcases key Finset.univ with ⟨-, hall⟩ | h
  · obtain ⟨i, r, hi⟩ := h2
    exact absurd ((hall i (Finset.mem_univ i)).symm.trans hi) (EReal.bot_ne_coe r)
  · exact h

end Cert.PagedProof
-- ==== Proof.Elements.lean ====
/-
# The two programs' results, read at an element

The operations of the kernel and of the reference at one element, over the extended reals: a score is a sum of
products times a constant, a weight is a count times an exponential, and the reference's gathered rows are the
rows of the pages that the table names.
-/
module

public import proofs.«01_k».proof.Proof.Counts
public import proofs.«01_k».proof.Proof.Lanes
public import proofs.«01_k».proof.Proof.Softmax
public import proofs.«01_k».proof.Proof.Gen.ReferenceIdeal.Run

@[expose] public section

noncomputable section

namespace Cert.PagedProof

open Idealize.ShloMosaic
open Idealize.ShloMosaic.TcCoe

/-- An idealized number as the extended real it is, whatever format it is held in. -/
abbrev ext {φ : FTy} (x : Ideal φ) : EReal := x

/-! ## Literals -/

theorem lit_bot : Ideal.ofBits .f32 4286578688#32 = ⊥ := by
  simp [Ideal.ofBits, Ideal.ieee]

theorem lit_scale : ∃ r : ℝ, Ideal.ofBits .f32 1040187392#32 = r := by
  refine ⟨1 / 8, ?_⟩
  simp [Ideal.ofBits, Ideal.ieee, -EReal.coe_mul]
  norm_num

theorem lit_low : ∃ r : ℝ, Ideal.ofBits .f32 4048155338#32 = r := by
  refine ⟨-(13234890 * 2 ^ 76), ?_⟩
  simp [Ideal.ofBits, Ideal.ieee, -EReal.coe_mul]

theorem lit_top : Ideal.ofBits .bf16 32640#16 = ⊤ := by
  simp [Ideal.ofBits, Ideal.ieee]

/-! ## The kernel -/

section Kernel

open Cert.KernelIdeal Cert.KernelIdeal.Gen

variable (h : Fin 8) (q : FVec Ideal S8x1x8x64 .bf16) (k v : FVec Ideal S64x16x8x64 .bf16)

theorem score_ap (b : Fin 8) (j : Fin 1024) :
    ext (scH h (k0_pay1 q) (k0_pay2 k) (ix2 b j))
      = (∑ x, ext (q (ix4 b 0 h x)) * ext (k (ix4 (slot j) (place j) h x))) * Ideal.ofBits .f32 1040187392#32 := by
  have e : ext (scH h (k0_pay1 q) (k0_pay2 k) (ix2 b j))
      = (∑ x, ext (k0_pay1 (F := Ideal) q (ix3 b h x)) * ext (k0_pay2 (F := Ideal) k (ix3 j h x))) * Ideal.ofBits .f32 1040187392#32 := by
    generalize k0_pay1 (F := Ideal) q = q', k0_pay2 (F := Ideal) k = k'
    match h with
    | 0 => pointwise [scH]
    | 1 => pointwise [scH]
    | 2 => pointwise [scH]
    | 3 => pointwise [scH]
    | 4 => pointwise [scH]
    | 5 => pointwise [scH]
    | 6 => pointwise [scH]
    | 7 => pointwise [scH]
  rw [e]
  have e1 (x : Fin 64) : k0_pay1 (F := Ideal) q (ix3 b h x) = q (ix4 b 0 h x) := by pointwise [k0_pay1]
  have e2 (x : Fin 64) : k0_pay2 (F := Ideal) k (ix3 j h x) = k (ix4 (slot j) (place j) h x) := by pointwise [k0_pay2]; rfl
  simp only [e1, e2]

theorem max_ap (msk : IVec S8x1024 1) (sc : FVec Ideal S8x1024 .f32) (b : Fin 8) :
    mH msk sc (ix2 b 0)
      = Finset.fold max (Ideal.ofBits .f32 4286578688#32)
          (fun x => Scalar.select (msk (ix2 b x)) (sc (ix2 b x)) (Ideal.ofBits .f32 4048155338#32)) Finset.univ := by
  pointwise [mH]

theorem weight_ap (cnt : FVec Ideal S8x1024 .f32) (msk : IVec S8x1024 1) (sc : FVec Ideal S8x1024 .f32) (b : Fin 8) (j : Fin 1024) :
    eH cnt msk sc (ix2 b j)
      = Scalar.select (msk (ix2 b j)) ((cnt (ix2 b j) : EReal) * Ideal.exp ((sc (ix2 b j) : EReal) - mH msk sc (ix2 b 0))) (0 : EReal) := by
  pointwise [eH]

theorem sumW_ap (e : FVec Ideal S8x1024 .f32) (b : Fin 8) : lH e (ix2 b 0) = ∑ x, (e (ix2 b x) : EReal) := by
  pointwise [lH]

theorem sumV_ap (e : FVec Ideal S8x1024 .f32) (b : Fin 8) (d : Fin 64) :
    ext (oH h (k0_pay3 v) e (ix2 b d)) = ∑ x, ext (e (ix2 b x)) * ext (v (ix4 (slot x) (place x) h d)) := by
  have e1 : ext (oH h (k0_pay3 v) e (ix2 b d)) = ∑ x, ext (e (ix2 b x)) * ext (k0_pay3 (F := Ideal) v (ix3 x h d)) := by
    generalize k0_pay3 (F := Ideal) v = v'
    match h with
    | 0 => pointwise [oH]
    | 1 => pointwise [oH]
    | 2 => pointwise [oH]
    | 3 => pointwise [oH]
    | 4 => pointwise [oH]
    | 5 => pointwise [oH]
    | 6 => pointwise [oH]
    | 7 => pointwise [oH]
  have e2 (x : Fin 1024) : k0_pay3 (F := Ideal) v (ix3 x h d) = v (ix4 (slot x) (place x) h d) := by pointwise [k0_pay3]; rfl
  rw [e1]
  simp only [e2]

theorem combine_ap (o : Fin 8 → FVec Ideal S8x8x64 .f32) (m l : Fin 8 → FVec Ideal S8x8x1 .f32) (b : Fin 8) (d : Fin 64) :
    combine o m l (ix4 b 0 h d)
      = Ideal.div (∑ p, Ideal.exp ((m p (ix3 b h 0) : EReal) - gmaxOf m (ix3 b h 0)) * o p (ix3 b h d))
          (∑ p, Ideal.exp ((m p (ix3 b h 0) : EReal) - gmaxOf m (ix3 b h 0)) * l p (ix3 b h 0)) := by
  rw [Fin.sum_univ_eight, Fin.sum_univ_eight]
  pointwise [combine, numOf, denOf, wgtOf]

theorem gmax_ap (m : Fin 8 → FVec Ideal S8x8x1 .f32) (b : Fin 8) :
    gmaxOf m (ix3 b h 0) = max (max (max (max (max (max (max (m 0 (ix3 b h 0) : EReal) (m 1 (ix3 b h 0))) (m 2 (ix3 b h 0))) (m 3 (ix3 b h 0)))
      (m 4 (ix3 b h 0))) (m 5 (ix3 b h 0))) (m 6 (ix3 b h 0))) (m 7 (ix3 b h 0)) := rfl

end Kernel

/-! ## The reference -/

section Reference

open Cert.ReferenceIdeal Cert.ReferenceIdeal.Gen Cert.ReferenceIdeal.Value

/-- A gathered row: the page is the index's entry, brought into the range of the pages. -/
theorem gather_ap {α : Type} (x : S512x16x8x64.Idx → α) (i : IVec S8x64x1 32) (b : Fin 8) (s : Fin 64) (r : Fin 16) (h : Fin 8) (d : Fin 64) :
    Host.gather gather_S512x16x8x64_S8x64x1_S8x64x16x8x64_234_0_n_n_0_2_116864 x i (ix5 b s r h d)
      = x (ix4 ⟨min (i (ix3 b s 0)).toInt.toNat 511, by omega⟩ r h d) := by
  unfold Host.gather
  refine congrArg x (funext fun a => Fin.ext ?_)
  fin_cases a
  · show _ + _ + _ = _
    have hs : (gather_S512x16x8x64_S8x64x1_S8x64x16x8x64_234_0_n_n_0_2_116864).siIdx (ix5 b s r h d) ⟨0, by decide⟩ = ix3 b s 0 := by
      funext a
      fin_cases a <;> rfl
    exact congrArg (fun z => min (i z).toInt.toNat 511) hs
  · show _ + _ + _ = _
    exact Nat.zero_add _
  · show _ + _ + _ = _
    exact Nat.zero_add _
  · show _ + _ + _ = _
    exact Nat.zero_add _

/-- The table with a negative entry counted from the end, as the reference reads it. -/
def wrapped (t : IVec S8x64 32) : IVec S8x64x1 32 :=
  broadcastInDim S8x64x1 ![0, 1] bcast_S8x64_S8x64x1_0_1 (select (cmpi .slt t (broadcastInDim S8x64 ![] bcast_S_S8x64 (constantI S_ 32 0#32)))
    (addi t (broadcastInDim S8x64 ![] bcast_S_S8x64 (constantI S_ 32 512#32))) t)

theorem wrapped_ap (t : IVec S8x64 32) (b : Fin 8) (s : Fin 64) :
    wrapped t (ix3 b s 0) = Scalar.select (IntOp.cmpi .slt (t (ix2 b s)) 0#32) (IntOp.addi (t (ix2 b s)) 512#32) (t (ix2 b s)) := by
  pointwise [wrapped]

variable (m : (ℓ : Loc nD τ sig) → Buf (Elt Ideal) ℓ) (c : Dev nD)

/-- The reference's score of key `k`: out of use, it is `⊥`. -/
def refScore (b h : Fin 8) (k : Fin 1024) : EReal :=
  Scalar.select (IntOp.cmpi .slt (BitVec.ofNat 32 (slot k).val) (m ((c.tc : Thread nD τ).loc main_arg4) (ix1 b)))
    ((∑ x, ext (φ := .bf16) (m ((c.tc : Thread nD τ).loc main_arg0) (ix4 b 0 h x))
        * ext (φ := .bf16) (Host.gather gather_S512x16x8x64_S8x64x1_S8x64x16x8x64_234_0_n_n_0_2_116864 (m ((c.tc : Thread nD τ).loc main_arg1))
            (wrapped (m ((c.tc : Thread nD τ).loc main_arg3))) (ix5 b (slot k) (place k) h x)))
      * Ideal.ofBits .f32 1040187392#32)
    (Ideal.ofBits .f32 4286578688#32)

set_option maxRecDepth 8192 in
/-- The reference's result at an element: the softmax of the scores, applied to the gathered values. -/
theorem reference_ap (b h : Fin 8) (d : Fin 64) :
    ext (φ := .f32) (res_main_v42 m c (ix4 b 0 h d))
      = ∑ k, ext (φ := .bf16) (Host.gather gather_S512x16x8x64_S8x64x1_S8x64x16x8x64_234_0_n_n_0_2_116864 (m ((c.tc : Thread nD τ).loc main_arg2))
            (wrapped (m ((c.tc : Thread nD τ).loc main_arg3))) (ix5 b (slot k) (place k) h d))
          * Ideal.div (Ideal.exp (refScore m c b h k - Finset.fold max (Ideal.ofBits .f32 4286578688#32) (refScore m c b h) Finset.univ))
              (∑ k', Ideal.exp (refScore m c b h k' - Finset.fold max (Ideal.ofBits .f32 4286578688#32) (refScore m c b h) Finset.univ)) := by
  pointwise [res_main_v42]
  rfl

end Reference

end Cert.PagedProof
-- ==== Proof.Agree.lean ====
/-
# The two results agree at every element

The contents of the argument arrays are given as functions, the kernel's keys and values as eight blocks of
whole arrays. Where the scores are real, every row names a page and every name in use is a page, the kernel's
combination and the reference's softmax are the same number.
-/
module

public import proofs.«01_k».proof.Proof.Elements

@[expose] public section

noncomputable section

namespace Cert.PagedProof

open Idealize.ShloMosaic
open Idealize.ShloMosaic.TcCoe
open Cert.KernelIdeal Cert.KernelIdeal.Gen

/-! ## The table -/

section Table

variable (T : IVec S8x64 32) (N : IVec S8 32) (b : Fin 8)

/-- Slot `s` of row `b` is in use. -/
def used (s : Fin 64) : Prop := IntOp.cmpi .slt (BitVec.ofNat 32 s.val) (N (ix1 b)) = 1#1

instance : DecidablePred (used N b) := fun s => inferInstanceAs (Decidable (_ = _))

theorem select_used {α : Type} (s : Fin 64) (h : used N b s) (x y : α) :
    Scalar.select (IntOp.cmpi .slt (BitVec.ofNat 32 s.val) (N (ix1 b))) x y = x := if_pos h

theorem select_unused {α : Type} (s : Fin 64) (h : ¬ used N b s) (x y : α) :
    Scalar.select (IntOp.cmpi .slt (BitVec.ofNat 32 s.val) (N (ix1 b))) x y = y := if_neg h

/-- The page that slot `s` of row `b` names. -/
def pageOf (s : Fin 64) : Fin 512 := ⟨min (T (ix2 b s)).toInt.toNat 511, by omega⟩

/-- The number of a page on its device, as the kernel computes it. -/
theorem word_page (t : BitVec 32) (p : Fin 8) (j : Fin 64) (h0 : 0 ≤ t.toInt) (h1 : t.toInt < 512) :
    IntOp.subi t (Scalar.muli (BitVec.ofNat 32 p.val) 64#32) = BitVec.ofNat 32 j.val ↔ min t.toInt.toNat 511 = 64 * p.val + j.val := by
  show t - BitVec.ofNat 32 p.val * 64#32 = BitVec.ofNat 32 j.val ↔ _
  have ht : t.toInt = t.toNat := by
    have := t.isLt
    rw [BitVec.toInt_eq_toNat_cond] at h0 ⊢
    split at h0 <;> split <;> omega
  rw [← BitVec.toNat_inj]
  simp only [BitVec.toNat_sub, BitVec.toNat_mul, BitVec.toNat_ofNat]
  have := t.isLt
  omega

theorem low_ne (j : Fin 64) : (4294967295#32 : BitVec 32) ≠ BitVec.ofNat 32 j.val := by
  intro h
  have := congrArg BitVec.toNat h
  simp only [BitVec.toNat_ofNat] at this
  omega

/-- The count of a key is how often the row names its page. -/
theorem count_eq (hT : ∀ s, used N b s → 0 ≤ (T (ix2 b s)).toInt ∧ (T (ix2 b s)).toInt < 512) (p : Fin 8) (k : Fin 1024) :
    ext (cntOf (F := Ideal) (BitVec.ofNat 32 p.val) T N (ix2 b k))
      = ((times (used N b) (pageOf T b) (pageAt p (slot k)) : ℕ) : EReal) := by
  refine (cnt_ap _ T N b k).trans (congrArg (fun n : ℕ => (n : EReal)) (congrArg Finset.card (Finset.filter_congr fun s _ => ?_)))
  rw [pay4_ap]
  by_cases hs : used N b s
  · rw [select_used N b s hs]
    refine (word_page _ p (slot k) (hT s hs).1 (hT s hs).2).trans ⟨fun h => ⟨hs, Fin.ext h⟩, fun h => congrArg Fin.val h.2⟩
  · rw [select_unused N b s hs]
    exact iff_of_false (low_ne (slot k)) fun h => hs h.1

theorem mask_eq (hT : ∀ s, used N b s → 0 ≤ (T (ix2 b s)).toInt ∧ (T (ix2 b s)).toInt < 512) (p : Fin 8) (k : Fin 1024) :
    mskOf (F := Ideal) (BitVec.ofNat 32 p.val) T N (ix2 b k) = 1 ↔ 0 < times (used N b) (pageOf T b) (pageAt p (slot k)) := by
  rw [msk_ap]
  have e := count_eq T N b hT p k
  unfold ext at e
  rw [e, Ideal.ofBits_zero_f32]
  show BitVec.ofBool (decide ((0 : EReal) < ((times (used N b) (pageOf T b) (pageAt p (slot k)) : ℕ) : EReal))) = 1#1 ↔ _
  by_cases h : 0 < times (used N b) (pageOf T b) (pageAt p (slot k))
  · have h' : (0 : EReal) < ((times (used N b) (pageOf T b) (pageAt p (slot k)) : ℕ) : EReal) := by exact_mod_cast h
    simp [h, h']
  · have h' : ¬ (0 : EReal) < ((times (used N b) (pageOf T b) (pageAt p (slot k)) : ℕ) : EReal) := by exact_mod_cast h
    simp [h, h']

end Table

/-! ## The kernel -/

section

variable (q : FVec Ideal S8x1x8x64 .bf16) (K V : Cert.ReferenceIdeal.S512x16x8x64.Idx → EReal) (T : IVec S8x64 32) (N : IVec S8 32)
variable (kb vb : Fin 8 → FVec Ideal S64x16x8x64 .bf16)

/-- The partial results of device `p`. -/
def partOn (p : Fin 8) : PartBuf Ideal :=
  partOf (k0_pay1 q) (k0_pay2 (kb p)) (k0_pay3 (vb p)) (cntOf (BitVec.ofNat 32 p.val) T N) (mskOf (F := Ideal) (BitVec.ofNat 32 p.val) T N) zeroBuf

/-- The score of a row with the key at place `r` of page `P`. -/
def scoreAt (b h : Fin 8) (P : Fin 512) (r : Fin 16) : EReal :=
  (∑ x, ext (q (ix4 b 0 h x)) * K (ix4 P r h x)) * Ideal.ofBits .f32 1040187392#32

theorem real_mul {a c : EReal} (ha : ∃ r : ℝ, a = r) (hc : ∃ r : ℝ, c = r) : ∃ r : ℝ, a * c = r := by
  obtain ⟨r, rfl⟩ := ha
  obtain ⟨s, rfl⟩ := hc
  exact ⟨r * s, (EReal.coe_mul r s).symm⟩

theorem real_sum {ι : Type} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

theorem real_score (hq : ∀ b h x, ∃ r : ℝ, ext (q (ix4 b 0 h x)) = r) (hK : ∀ P r h x, ∃ y : ℝ, K (ix4 P r h x) = y)
    (b h : Fin 8) (P : Fin 512) (r : Fin 16) : ∃ y : ℝ, scoreAt q K b h P r = y :=
  real_mul (real_sum _ _ fun x => real_mul (hq b h x) (hK P r h x)) lit_scale

/-- The kernel's combined result at an element, with any shift `M`. -/
theorem kernel_eq (hT : ∀ b s, used N b s → 0 ≤ (T (ix2 b s)).toInt ∧ (T (ix2 b s)).toInt < 512)
    (hN : ∀ b, ∃ s, used N b s)
    (hk : ∀ p j r h d, ext (kb p (ix4 j r h d)) = K (ix4 (pageAt p j) r h d))
    (hv : ∀ p j r h d, ext (vb p (ix4 j r h d)) = V (ix4 (pageAt p j) r h d))
    (b h : Fin 8) (d : Fin 64) (x : Fin 512 → Fin 16 → ℝ) (hx : ∀ P r, scoreAt q K b h P r = x P r) (M : ℝ) :
    ext (combine (fun p => laneO (partOn q T N kb vb p)) (fun p => laneM (partOn q T N kb vb p)) (fun p => laneL (partOn q T N kb vb p)) (ix4 b 0 h d))
      = ∑ k, if used N b (slot k) then
          ((Real.exp (x (pageOf T b (slot k)) (place k) - M) * (total (used N b) (pageOf T b) x M)⁻¹ : ℝ) : EReal)
            * V (ix4 (pageOf T b (slot k)) (place k) h d) else 0 := by
  have hsc (p : Fin 8) (k : Fin 1024) : ext (scH h (k0_pay1 q) (k0_pay2 (kb p)) (ix2 b k)) = x (pageAt p (slot k)) (place k) := by
    rw [score_ap, ← hx]
    simp only [hk]
    rfl
  have hmu (p : Fin 8) : ∃ r : ℝ, ext (laneM (partOn q T N kb vb p) (ix3 b h 0)) = r := by
    have e : ext (laneM (partOn q T N kb vb p) (ix3 b h 0)) = _ := (laneM_partOf _ _ _ _ _ _ b h).trans (max_ap _ _ b)
    rw [e, lit_bot]
    have hr (k : Fin 1024) : ∃ r : ℝ, Scalar.select (mskOf (F := Ideal) (BitVec.ofNat 32 p.val) T N (ix2 b k))
        (ext (scH h (k0_pay1 q) (k0_pay2 (kb p)) (ix2 b k))) (Ideal.ofBits .f32 4048155338#32) = r := by
      unfold Scalar.select
      split
      · exact ⟨_, hsc p k⟩
      · exact lit_low
    exact real_fold _ (fun k => Or.inr (hr k)) ⟨0, hr 0⟩
  choose μ hμ using hmu
  have hga : ∃ γ : ℝ, ext (gmaxOf (fun p => laneM (partOn q T N kb vb p)) (ix3 b h 0)) = γ := by
    have e : ext (gmaxOf (fun p => laneM (partOn q T N kb vb p)) (ix3 b h 0)) = _ := gmax_ap h _ b
    rw [e]
    exact real_max (real_max (real_max (real_max (real_max (real_max (real_max ⟨_, hμ 0⟩ ⟨_, hμ 1⟩) ⟨_, hμ 2⟩) ⟨_, hμ 3⟩) ⟨_, hμ 4⟩) ⟨_, hμ 5⟩) ⟨_, hμ 6⟩) ⟨_, hμ 7⟩
  obtain ⟨γ, hγ⟩ := hga
  have hw (p : Fin 8) (k : Fin 1024) :
      ext (eH (cntOf (BitVec.ofNat 32 p.val) T N) (mskOf (F := Ideal) (BitVec.ofNat 32 p.val) T N) (scH h (k0_pay1 q) (k0_pay2 (kb p))) (ix2 b k))
        = (weight (used N b) (pageOf T b) x μ p k : EReal) := by
    have hm : ext (mH (mskOf (F := Ideal) (BitVec.ofNat 32 p.val) T N) (scH h (k0_pay1 q) (k0_pay2 (kb p))) (ix2 b 0)) = μ p :=
      (laneM_partOf _ _ _ _ _ _ b h).symm.trans (hμ p)
    have e : ext (eH (cntOf (BitVec.ofNat 32 p.val) T N) (mskOf (F := Ideal) (BitVec.ofNat 32 p.val) T N) (scH h (k0_pay1 q) (k0_pay2 (kb p))) (ix2 b k))
        = Scalar.select (mskOf (F := Ideal) (BitVec.ofNat 32 p.val) T N (ix2 b k))
            (ext (cntOf (F := Ideal) (BitVec.ofNat 32 p.val) T N (ix2 b k))
              * Ideal.exp (ext (scH h (k0_pay1 q) (k0_pay2 (kb p)) (ix2 b k))
                - ext (mH (mskOf (F := Ideal) (BitVec.ofNat 32 p.val) T N) (scH h (k0_pay1 q) (k0_pay2 (kb p))) (ix2 b 0)))) (0 : EReal) :=
      weight_ap _ _ _ b k
    rw [e, hm, hsc, count_eq T N b (hT b), exp_sub, weight, EReal.coe_mul]
    unfold Scalar.select
    by_cases h0 : 0 < times (used N b) (pageOf T b) (pageAt p (slot k))
    · rw [if_pos ((mask_eq T N b (hT b) p k).2 h0)]
      rfl
    · rw [if_neg fun hh => h0 ((mask_eq T N b (hT b) p k).1 hh)]
      rw [Nat.eq_zero_of_not_pos h0]
      simp
  have hL (p : Fin 8) : ext (laneL (partOn q T N kb vb p) (ix3 b h 0)) = ∑ k, (weight (used N b) (pageOf T b) x μ p k : EReal) := by
    refine (laneL_partOf _ _ _ _ _ _ b h).trans ((sumW_ap _ b).trans (Finset.sum_congr rfl fun k _ => hw p k))
  have hO (p : Fin 8) : ext (laneO (partOn q T N kb vb p) (ix3 b h d))
      = ∑ k, (weight (used N b) (pageOf T b) x μ p k : EReal) * V (ix4 (pageAt p (slot k)) (place k) h d) := by
    refine (laneO_partOf _ _ _ _ _ _ b h d).trans ((sumV_ap h _ _ b d).trans (Finset.sum_congr rfl fun k _ => ?_))
    rw [hw p k, hv]
  have e : ext (combine (fun p => laneO (partOn q T N kb vb p)) (fun p => laneM (partOn q T N kb vb p)) (fun p => laneL (partOn q T N kb vb p)) (ix4 b 0 h d))
      = Ideal.div (∑ p, Ideal.exp (ext (laneM (partOn q T N kb vb p) (ix3 b h 0)) - ext (gmaxOf (fun p => laneM (partOn q T N kb vb p)) (ix3 b h 0)))
            * ext (laneO (partOn q T N kb vb p) (ix3 b h d)))
          (∑ p, Ideal.exp (ext (laneM (partOn q T N kb vb p) (ix3 b h 0)) - ext (gmaxOf (fun p => laneM (partOn q T N kb vb p)) (ix3 b h 0)))
            * ext (laneL (partOn q T N kb vb p) (ix3 b h 0))) := combine_ap h _ _ _ b d
  rw [e]
  simp only [hμ, hγ, hO, hL]
  exact combined_eq (used N b) (pageOf T b) x (fun P r => V (ix4 P r h d)) (hN b) μ γ M

end

/-! ## The reference -/

section

variable (m : (ℓ : Loc Cert.ReferenceIdeal.nD Cert.ReferenceIdeal.τ Cert.ReferenceIdeal.sig) → Buf (Elt Ideal) ℓ) (c : Dev Cert.ReferenceIdeal.nD)

/-- The contents of the reference's arguments. -/
abbrev argQ : FVec Ideal S8x1x8x64 .bf16 := m ((c.tc : Thread Cert.ReferenceIdeal.nD Cert.ReferenceIdeal.τ).loc Cert.ReferenceIdeal.main_arg0)
abbrev argK : FVec Ideal Cert.ReferenceIdeal.S512x16x8x64 .bf16 := m ((c.tc : Thread Cert.ReferenceIdeal.nD Cert.ReferenceIdeal.τ).loc Cert.ReferenceIdeal.main_arg1)
abbrev argV : FVec Ideal Cert.ReferenceIdeal.S512x16x8x64 .bf16 := m ((c.tc : Thread Cert.ReferenceIdeal.nD Cert.ReferenceIdeal.τ).loc Cert.ReferenceIdeal.main_arg2)
abbrev argT : IVec S8x64 32 := m ((c.tc : Thread Cert.ReferenceIdeal.nD Cert.ReferenceIdeal.τ).loc Cert.ReferenceIdeal.main_arg3)
abbrev argN : IVec S8 32 := m ((c.tc : Thread Cert.ReferenceIdeal.nD Cert.ReferenceIdeal.τ).loc Cert.ReferenceIdeal.main_arg4)

/-- A name in use is not wrapped. -/
theorem wrapped_used (b : Fin 8) (s : Fin 64) (h0 : 0 ≤ (argT m c (ix2 b s)).toInt) : wrapped (argT m c) (ix3 b s 0) = argT m c (ix2 b s) := by
  rw [wrapped_ap]
  unfold Scalar.select
  refine if_neg fun h => ?_
  have h' : (argT m c (ix2 b s)).slt 0#32 = true := by
    by_contra hn
    rw [Bool.not_eq_true] at hn
    have h2 : BitVec.ofBool ((argT m c (ix2 b s)).slt 0#32) = 1#1 := h
    rw [hn] at h2
    exact absurd h2 (by decide)
  rw [BitVec.slt_iff_toInt_lt] at h'
  have : (0#32 : BitVec 32).toInt = 0 := by decide
  omega

/-- The row gathered for a name in use is the row of the page named. -/
theorem gather_used {α : Type} (X : Cert.ReferenceIdeal.S512x16x8x64.Idx → α) (b : Fin 8) (s : Fin 64) (h0 : 0 ≤ (argT m c (ix2 b s)).toInt)
    (r : Fin 16) (h : Fin 8) (d : Fin 64) :
    Host.gather Cert.ReferenceIdeal.gather_S512x16x8x64_S8x64x1_S8x64x16x8x64_234_0_n_n_0_2_116864 X (wrapped (argT m c)) (ix5 b s r h d)
      = X (ix4 (pageOf (argT m c) b s) r h d) := by
  rw [gather_ap]
  have e := wrapped_used m c b s h0
  refine congrArg X (congrArg (fun P => ix4 P r h d) (Fin.ext ?_))
  exact congrArg (fun t : BitVec 32 => min t.toInt.toNat 511) e

/-- The reference's result at an element. -/
theorem reference_eq (hT : ∀ b s, used (argN m c) b s → 0 ≤ (argT m c (ix2 b s)).toInt)
    (hN : ∀ b, ∃ s, used (argN m c) b s) (b h : Fin 8) (d : Fin 64)
    (x : Fin 512 → Fin 16 → ℝ) (hx : ∀ P r, scoreAt (argQ m c) (argK m c) b h P r = x P r) :
    ∃ M : ℝ, ext (φ := .f32) (Cert.ReferenceIdeal.Value.res_main_v42 m c (ix4 b 0 h d))
      = ∑ k, if used (argN m c) b (slot k) then
          ((Real.exp (x (pageOf (argT m c) b (slot k)) (place k) - M) * (total (used (argN m c) b) (pageOf (argT m c) b) x M)⁻¹ : ℝ) : EReal)
            * ext (argV m c (ix4 (pageOf (argT m c) b (slot k)) (place k) h d)) else 0 := by
  have hS (k : Fin 1024) : refScore m c b h k
      = if used (argN m c) b (slot k) then (x (pageOf (argT m c) b (slot k)) (place k) : EReal) else ⊥ := by
    by_cases hs : used (argN m c) b (slot k)
    · rw [if_pos hs, ← hx]
      refine (select_used _ b _ hs _ _).trans ?_
      refine congrArg (· * Ideal.ofBits .f32 1040187392#32) (Finset.sum_congr rfl fun y _ => ?_)
      exact congrArg (fun z : EReal => ext (argQ m c (ix4 b 0 h y)) * z) (gather_used m c (argK m c) b _ (hT b _ hs) (place k) h y)
    · rw [if_neg hs]
      exact (select_unused _ b _ hs _ _).trans lit_bot
  have hM : ∃ M : ℝ, Finset.fold max (Ideal.ofBits .f32 4286578688#32) (refScore m c b h) Finset.univ = M := by
    rw [lit_bot]
    refine real_fold _ (fun k => ?_) ?_
    · rw [hS]
      split
      · exact Or.inr ⟨_, rfl⟩
      · exact Or.inl rfl
    · obtain ⟨s, hs⟩ := hN b
      refine ⟨⟨16 * s.val, by omega⟩, ?_⟩
      have e : slot ⟨16 * s.val, by omega⟩ = s := Fin.ext (by show 16 * s.val / 16 = s.val; omega)
      rw [hS, e, if_pos hs]
      exact ⟨_, rfl⟩
  obtain ⟨M, hM⟩ := hM
  refine ⟨M, (reference_ap m c b h d).trans ?_⟩
  rw [hM]
  exact plain_eq (used (argN m c) b) (pageOf (argT m c) b) x (fun P r => ext (argV m c (ix4 P r h d))) (hN b) M _ _ hS
    fun k hs => gather_used m c (argV m c) b _ (hT b _ hs) (place k) h d

end

end Cert.PagedProof
-- ==== Proof.Given.lean ====
/-
# What the precondition says

The precondition is four arrays of bits. Read at an element they say: a row names at least one page, a name in
use is one of the 512 pages, and the queries and the keys are real numbers.
-/
module

public import proofs.«01_k».proof.Proof.Agree
public import proofs.«01_k».proof.Proof.Gen.Pre_names_pages_KernelIdeal

@[expose] public section

noncomputable section

namespace Cert.PagedProof

open Idealize.ShloMosaic
open Idealize.ShloMosaic.TcCoe

section

open Cert.Pre_names_pages_KernelIdeal Cert.Pre_names_pages_KernelIdeal.Gen

variable (q : FVec Ideal S8x1x8x64 .bf16) (k v : FVec Ideal S64x16x8x64 .bf16) (T : IVec S8x64 32) (N : IVec S8 32)

theorem first_ap (b : Fin 8) : (fn (F := Ideal) q k v T N).1 (ix1 b) = IntOp.cmpi .sge (N (ix1 b)) 1#32 := by
  pointwise [fn, fn_part1]

theorem second_ap (b : Fin 8) (s : Fin 64) : (fn (F := Ideal) q k v T N).2.1 (ix2 b s)
    = IntOp.ori (~~~(IntOp.cmpi .slt (BitVec.ofNat 32 s.val) (N (ix1 b))))
        (IntOp.andi (IntOp.cmpi .sge (T (ix2 b s)) 0#32) (IntOp.cmpi .slt (T (ix2 b s)) 512#32)) := by
  pointwise [fn, fn_part1]

theorem third_ap (b h : Fin 8) (x : Fin 64) : (fn (F := Ideal) q k v T N).2.2.1 (ix4 b 0 h x)
    = Ideal.cmp .olt (max (ext (q (ix4 b 0 h x))) (-ext (q (ix4 b 0 h x)))) (Ideal.ofBits .bf16 32640#16) := by
  pointwise [fn, fn_part1]
  rfl

theorem fourth_ap (j : Fin 64) (r : Fin 16) (h : Fin 8) (x : Fin 64) : (fn (F := Ideal) q k v T N).2.2.2 (ix4 j r h x)
    = Ideal.cmp .olt (max (ext (k (ix4 j r h x))) (-ext (k (ix4 j r h x)))) (Ideal.ofBits .bf16 32640#16) := by
  pointwise [fn, fn_part1]
  rfl

end

/-- A number whose size is below `⊤` is real. -/
theorem real_of_size (a : EReal) (h : Ideal.cmp .olt (max a (-a)) (Ideal.ofBits .bf16 32640#16) = 1#1) : ∃ r : ℝ, a = r := by
  rw [lit_top] at h
  induction a using EReal.rec with
  | bot => exact absurd h (by simp [Ideal.cmp])
  | coe r => exact ⟨r, rfl⟩
  | top => exact absurd h (by simp [Ideal.cmp])

theorem slt_bit {x y : BitVec 32} : IntOp.cmpi .slt x y = 1#1 ↔ x.toInt < y.toInt := by
  show BitVec.ofBool (x.slt y) = 1#1 ↔ _
  rw [← BitVec.slt_iff_toInt_lt]
  cases x.slt y <;> decide

theorem sge_bit {x y : BitVec 32} : IntOp.cmpi .sge x y = 1#1 ↔ y.toInt ≤ x.toInt := by
  show BitVec.ofBool (y.sle x) = 1#1 ↔ _
  rw [← BitVec.sle_iff_toInt_le]
  cases y.sle x <;> decide

open Cert.KernelIdeal in
/-- A row of length at least one uses its first slot. -/
theorem first_used (N : IVec S8 32) (b : Fin 8) (h : IntOp.cmpi .sge (N (ix1 b)) 1#32 = 1#1) : used N b 0 := by
  have h1 := sge_bit.1 h
  refine slt_bit.2 ?_
  have e1 : (1#32 : BitVec 32).toInt = 1 := by decide
  have e0 : (BitVec.ofNat 32 (0 : Fin 64).val).toInt = 0 := by decide
  omega

theorem bits_or (a x y : BitVec 1) (ha : a = 1#1) (h : IntOp.ori (~~~a) (IntOp.andi x y) = 1#1) : x = 1#1 ∧ y = 1#1 := by
  revert a x y
  decide

open Cert.KernelIdeal in
/-- A name in use is in range. -/
theorem used_range (T : IVec S8x64 32) (N : IVec S8 32) (b : Fin 8) (s : Fin 64)
    (h : IntOp.ori (~~~(IntOp.cmpi .slt (BitVec.ofNat 32 s.val) (N (ix1 b))))
        (IntOp.andi (IntOp.cmpi .sge (T (ix2 b s)) 0#32) (IntOp.cmpi .slt (T (ix2 b s)) 512#32)) = 1#1)
    (hs : used N b s) : 0 ≤ (T (ix2 b s)).toInt ∧ (T (ix2 b s)).toInt < 512 := by
  obtain ⟨h0, h1⟩ := bits_or _ _ _ hs h
  have h0 := sge_bit.1 h0
  have h1 := slt_bit.1 h1
  have e0 : (0#32 : BitVec 32).toInt = 0 := by decide
  have e1 : (512#32 : BitVec 32).toInt = 512 := by decide
  omega

end Cert.PagedProof
-- ==== Proof.Value.lean ====
/-
# The value claim

Every device ends with the reference's result. The devices' argument arrays are those of the reference, the keys
and the values in eight blocks; the precondition makes the scores real, and the two results agree at every
element.
-/
module

public import proofs.«01_k».proof.Proof.Frames
public import proofs.«01_k».proof.Proof.Given

@[expose] public section

noncomputable section

namespace Cert.PagedProof

open Idealize.ShloMosaic Idealize.SL.Sem
open Idealize.ShloMosaic.TcCoe
open Cert.KernelIdeal Cert.KernelIdeal.Gen

/-! ## The blocks -/

/-- Block `p` of the pages holds pages `64 p` to `64 p + 63`. -/
theorem block_page (X : Cert.ReferenceIdeal.S512x16x8x64.Idx → EReal) (p : Fin 8) (j : Fin 64) (r : Fin 16) (h : Fin 8) (d : Fin 64) :
    Layout.block ⟨4, ![64, 16, 8, 64]⟩ ⟨4, ![512, 16, 8, 64]⟩ 0 8 p X (by decide) (ix4 j r h d) = X (ix4 (pageAt p j) r h d) := by
  rw [Layout.block_apply]
  refine congrArg X (funext fun a => Fin.ext ?_)
  rw [Layout.Tiles.idx_val]
  fin_cases a
  · show p.val * 64 + j.val = 64 * p.val + j.val
    omega
  · rfl
  · rfl
  · rfl

/-- Every page is in a block. -/
theorem page_block (P : Fin 512) : P = pageAt ⟨P.val / 64, by omega⟩ ⟨P.val % 64, by omega⟩ :=
  Fin.ext (by show P.val = 64 * (P.val / 64) + P.val % 64; omega)

/-! ## The staged operands -/

section Staged

variable {F : FTy → Type} [FloatOps F] (m : (ℓ : Loc nD τ sig) → Buf (Elt F) ℓ) (ρ : Dev nD → PrngReg) (c : Dev nD)

theorem stQ_eq : stQ m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem stK_eq : stK m ρ c = m ((c.tc : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem stV_eq : stV m ρ c = m ((c.tc : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

theorem stT_eq : stT m ρ c = m ((c.tc : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _

theorem stN_eq : stN m ρ c = m ((c.tc : Thread nD τ).loc main_arg4) := by
  have hz : (fun a => (win0_4.index (0 : Fin 1)) a * main_arg4.ty.shape.size a) = fun _ => 0 := funext fun a => by fin_cases a <;> decide
  exact Memref.read_access_unit_zero (Elt F) main_arg4 hz (fun a => by fin_cases a <;> decide) _

end Staged

/-! ## The claim -/

section

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The keys and the values of device `p`. -/
def blkK (p : Dev nD) : FVec Ideal S64x16x8x64 .bf16 := m ((p.tc : Thread nD τ).loc main_arg1)
def blkV (p : Dev nD) : FVec Ideal S64x16x8x64 .bf16 := m ((p.tc : Thread nD τ).loc main_arg2)

/-- What the kernel leaves is the reference's result. -/
theorem value_eq (hpre : Cert.Pre_KernelIdeal_names_pages_KernelIdeal m)
    (h0 : ∀ c : Dev nD, m ((c.tc : Thread nD τ).loc main_arg0) = argQ m' 0)
    (h1 : ∀ c : Dev nD, m ((c.tc : Thread nD τ).loc main_arg1) = Layout.block ⟨4, ![64, 16, 8, 64]⟩ ⟨4, ![512, 16, 8, 64]⟩ 0 8 c (argK m' 0))
    (h2 : ∀ c : Dev nD, m ((c.tc : Thread nD τ).loc main_arg2) = Layout.block ⟨4, ![64, 16, 8, 64]⟩ ⟨4, ![512, 16, 8, 64]⟩ 0 8 c (argV m' 0))
    (h3 : ∀ c : Dev nD, m ((c.tc : Thread nD τ).loc main_arg3) = argT m' 0)
    (h4 : ∀ c : Dev nD, m ((c.tc : Thread nD τ).loc main_arg4) = argN m' 0) :
    outAt m ρ = Cert.ReferenceIdeal.Value.res_main_v42 m' 0 := by
  have hT (b : Fin 8) (s : Fin 64) (hs : used (argN m' 0) b s) : 0 ≤ (argT m' 0 (ix2 b s)).toInt ∧ (argT m' 0 (ix2 b s)).toInt < 512 := by
    have e := congrFun (hpre 0).2.1 (ix2 b s)
    rw [h3, h4] at e
    exact used_range _ _ b s ((second_ap _ _ _ _ _ b s).symm.trans e) hs
  have hN (b : Fin 8) : ∃ s, used (argN m' 0) b s := by
    have e := congrFun (hpre 0).1 (ix1 b)
    rw [h4] at e
    exact ⟨0, first_used _ b ((first_ap _ _ _ _ _ b).symm.trans e)⟩
  have hq (b h : Fin 8) (x : Fin 64) : ∃ r : ℝ, ext (argQ m' 0 (ix4 b 0 h x)) = r := by
    have e := congrFun (hpre 0).2.2.1 (ix4 b 0 h x)
    rw [h0] at e
    exact real_of_size _ ((third_ap _ _ _ _ _ b h x).symm.trans e)
  have hK (P : Fin 512) (r : Fin 16) (h : Fin 8) (x : Fin 64) : ∃ y : ℝ, argK m' 0 (ix4 P r h x) = y := by
    have e := congrFun (hpre ⟨P.val / 64, by show P.val / 64 < 8; omega⟩).2.2.2 (ix4 ⟨P.val % 64, by omega⟩ r h x)
    have e' := real_of_size _ ((fourth_ap _ _ _ _ _ _ r h x).symm.trans e)
    rw [h1] at e'
    have e2 := block_page (argK m' 0) ⟨P.val / 64, by omega⟩ ⟨P.val % 64, by omega⟩ r h x
    rw [← page_block P] at e2
    obtain ⟨y, hy⟩ := e'
    exact ⟨y, e2.symm.trans hy⟩
  have hout : outAt m ρ = combine
      (fun p => laneO (partOn (argQ m' 0) (argT m' 0) (argN m' 0) (blkK m) (blkV m) p))
      (fun p => laneM (partOn (argQ m' 0) (argT m' 0) (argN m' 0) (blkK m) (blkV m) p))
      (fun p => laneL (partOn (argQ m' 0) (argT m' 0) (argN m' 0) (blkK m) (blkV m) p)) := by
    have hp (p : Dev nD) : partW m ρ p zeroBuf
        = partOn (argQ m' 0) (argT m' 0) (argN m' 0) (blkK m) (blkV m) p := by
      unfold partW partOn
      rw [stQ_eq, stK_eq, stV_eq, stT_eq, stN_eq, h0, h3, h4, wordOf_eq]
      rfl
    unfold outAt
    simp only [hp]
  rw [hout]
  funext i
  obtain ⟨b, z, h, d, rfl⟩ : ∃ b z h d, i = ix4 b z h d := ⟨i 0, i 1, i 2, i 3, eq_ix4 i⟩
  obtain rfl : z = 0 := Subsingleton.elim _ _
  choose x hx using real_score (argQ m' 0) (argK m' 0) hq hK b h
  obtain ⟨M, hM⟩ := reference_eq m' 0 (fun b s hs => (hT b s hs).1) hN b h d x hx
  refine Eq.trans ?_ hM.symm
  exact kernel_eq (argQ m' 0) (argK m' 0) (argV m' 0) (argT m' 0) (argN m' 0) (blkK m) (blkV m) hT hN
    (fun p j r h d => (congrFun (h1 p) _).trans (block_page (argK m' 0) p j r h d))
    (fun p j r h d => (congrFun (h2 p) _).trans (block_page (argV m' 0) p j r h d)) b h d x hx M

end

/-- From agreeing arguments under the precondition, every device's result is the reference's. -/
theorem value_claim : Cert.algebraic_KernelIdeal_ReferenceIdeal_pre_names_pages_KernelIdeal := fun m g m' g' hpre hargs => by
  refine ⟨Cert.ReferenceIdeal.Value.res_main_v42 m' 0, ?_, ?_⟩
  · refine (θ_run _ _ _).mono (fun r h c => ?_) (run_all m g)
    refine ⟨(result_of m g h.1 c).trans ?_, kept_of m g h.1 c⟩
    exact value_eq m g m' hpre (fun c => (hargs c).1) (fun c => (hargs c).2.1) (fun c => (hargs c).2.2.1) (fun c => (hargs c).2.2.2.1)
      (fun c => (hargs c).2.2.2.2)
  · exact (θ_run _ _ _).mono (fun r h => h 0) (Cert.ReferenceIdeal.Value.run m' g')

end Cert.PagedProof
-- ==== Proof.lean ====
/-
# The certificate

The side conditions the programs and the precondition state, and the claims: the frames (`Proof/Frames.lean`)
and the value of the result (`Proof/Value.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_names_pages_KernelIdeal
public import proofs.«01_k».proof.Proof.Gen.Pre_names_pages_ReferenceIdeal
public import proofs.«01_k».proof.Proof.Frames
public import proofs.«01_k».proof.Proof.Value

@[expose] public section

noncomputable section

namespace Cert.Proof

open Cert.PagedProof

theorem frame_kernelIdeal_pre : Cert.quiescent_KernelIdeal_pre_names_pages_KernelIdeal := fun m ρ _ => frame_kernelIdeal m ρ trivial
theorem frame_reference_pre : Cert.quiescent_ReferenceIdeal_pre_names_pages_ReferenceIdeal := fun m ρ _ => frame_reference m ρ trivial

theorem claim : Cert.Claim :=
  ⟨Cert.Kernel.Gen.facts, Cert.KernelIdeal.Gen.facts, Cert.ReferenceIdeal.Gen.facts, Cert.Pre_names_pages_KernelIdeal.Gen.facts,
    Cert.Pre_names_pages_ReferenceIdeal.Gen.facts,
    frame_kernel, frame_kernelIdeal, frame_kernelIdeal_pre, frame_reference, frame_reference_pre, trivial, value_claim⟩

end Cert.Proof

end
